-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  IdealRules.named_const.Statement Cert.KernelIdeal.κ "inv_nodes" .f32 0x3C638E39#32 ((1 / 72 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v7_3)) (v1 : (c : Dev Cert.KernelIdeal.nD) → Buf (Elt Ideal) ((c.tc : Thread Cert.KernelIdeal.nD Cert.KernelIdeal.τ).loc Cert.KernelIdeal.main_v7_0)) (v2 : (c : Dev Cert.KernelIdeal.nD) → Buf (Elt Ideal) ((c.tc : Thread Cert.KernelIdeal.nD Cert.KernelIdeal.τ).loc Cert.KernelIdeal.main_v7_1)) (v3 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_3) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_v7_1) = v2 c
          ∧ r.2.mem ((c.tc : Thread Cert.KernelIdeal.nD Cert.KernelIdeal.τ).loc Cert.KernelIdeal.main_v7_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def algebraic_KernelIdeal_ReferenceIdeal_on_latent [hKernelIdeal : Cert.KernelIdeal.Facts] [hReferenceIdeal : Cert.ReferenceIdeal.Facts] [hOn_latent : Cert.On_latent.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v7_3)) (v1 : (c : Dev Cert.KernelIdeal.nD) → Buf (Elt Ideal) ((c.tc : Thread Cert.KernelIdeal.nD Cert.KernelIdeal.τ).loc Cert.KernelIdeal.main_v7_0)) (v2 : (c : Dev Cert.KernelIdeal.nD) → Buf (Elt Ideal) ((c.tc : Thread Cert.KernelIdeal.nD Cert.KernelIdeal.τ).loc Cert.KernelIdeal.main_v7_1)) (v3 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 1]⟩ : Shape).Idx, (Cert.On_latent.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).1 i = 1#1 → r.2.mem ((c.tc : Thread Cert.KernelIdeal.nD Cert.KernelIdeal.τ).loc Cert.KernelIdeal.main_v7_3) i = v0 c i)
          ∧ (∀ i : (⟨3, ![256, 72, 128]⟩ : Shape).Idx, (Cert.On_latent.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.1 i = 1#1 → r.2.mem ((c.tc : Thread Cert.KernelIdeal.nD Cert.KernelIdeal.τ).loc Cert.KernelIdeal.main_v7_0) i = v1 c i)
          ∧ (∀ i : (⟨3, ![256, 72, 128]⟩ : Shape).Idx, (Cert.On_latent.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.1 i = 1#1 → r.2.mem ((c.tc : Thread Cert.KernelIdeal.nD Cert.KernelIdeal.τ).loc Cert.KernelIdeal.main_v7_1) i = v2 c i)
          ∧ (∀ i : (⟨3, ![256, 72, 128]⟩ : Shape).Idx, (Cert.On_latent.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2 i = 1#1 → r.2.mem ((c.tc : Thread Cert.KernelIdeal.nD Cert.KernelIdeal.τ).loc Cert.KernelIdeal.main_v7_2) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![256, 1]⟩ : Shape).Idx, (Cert.On_latent.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).1 i = 1#1 → r.2.mem ((c.tc : Thread Cert.ReferenceIdeal.nD Cert.ReferenceIdeal.τ).loc Cert.ReferenceIdeal.main_v115) i = v0 c i)
          ∧ (∀ i : (⟨3, ![256, 72, 128]⟩ : Shape).Idx, (Cert.On_latent.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.1 i = 1#1 → r.2.mem ((c.tc : Thread Cert.ReferenceIdeal.nD Cert.ReferenceIdeal.τ).loc Cert.ReferenceIdeal.main_v63) i = v1 c i)
          ∧ (∀ i : (⟨3, ![256, 72, 128]⟩ : Shape).Idx, (Cert.On_latent.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.1 i = 1#1 → r.2.mem ((c.tc : Thread Cert.ReferenceIdeal.nD Cert.ReferenceIdeal.τ).loc Cert.ReferenceIdeal.main_v68) i = v2 c i)
          ∧ (∀ i : (⟨3, ![256, 72, 128]⟩ : Shape).Idx, (Cert.On_latent.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2 i = 1#1 → r.2.mem ((c.tc : Thread Cert.ReferenceIdeal.nD Cert.ReferenceIdeal.τ).loc Cert.ReferenceIdeal.main_v63) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts) (hOn_latent : Cert.On_latent.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ algebraic_KernelIdeal_ReferenceIdeal_on_latent (hKernelIdeal := hKernelIdeal) (hReferenceIdeal := hReferenceIdeal) (hOn_latent := hOn_latent)
-- ==== On_latent.lean ====
abbrev S8x256x128 : Shape := ⟨3, ![8, 256, 128]⟩
abbrev S16384x128 : Shape := ⟨2, ![16384, 128]⟩
abbrev S16384 : Shape := ⟨1, ![16384]⟩
abbrev S18432 : Shape := ⟨1, ![18432]⟩
abbrev S8x128x128 : Shape := ⟨3, ![8, 128, 128]⟩
abbrev S8x128 : Shape := ⟨2, ![8, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S256x1 : Shape := ⟨2, ![256, 1]⟩
abbrev S1 : Shape := ⟨1, ![1]⟩
abbrev S_ : Shape := ⟨0, ![]⟩
abbrev S256x72x128 : Shape := ⟨3, ![256, 72, 128]⟩

class Facts : Prop where
  bcast_S_S256x72x128 : S_.BroadcastsInDim S256x72x128 (![] : Fin 0 → Fin S256x72x128.rank)
  bcast_S_S256x1 : S_.BroadcastsInDim S256x1 (![] : Fin 0 → Fin S256x1.rank)

variable [Facts]

def fn {F : FTy → Type} [FloatOps F] (main_arg0 : FVec F S8x256x128 .f32) (main_arg1 : FVec F S16384x128 .f32) (main_arg2 : IVec S16384 32) (main_arg3 : IVec S18432 32) (main_arg4 : FVec F S8x128x128 .f32) (main_arg5 : FVec F S8x128 .f32) (main_arg6 : FVec F S128x128 .f32) (main_arg7 : FVec F S128 .f32) (main_arg8 : FVec F S128x128 .f32) (main_arg9 : FVec F S128x256 .f32) (main_arg10 : FVec F S256 .f32) (main_arg11 : FVec F S256x128 .f32) (main_arg12 : FVec F S128 .f32) (main_arg13 : FVec F S256x128 .f32) (main_arg14 : FVec F S128 .f32) (main_arg15 : FVec F S128x128 .f32) (main_arg16 : FVec F S128x128 .f32) (main_arg17 : FVec F S128x128 .f32) (main_arg18 : FVec F S128x128 .f32) (main_arg19 : FVec F S128x256 .f32) (main_arg20 : FVec F S256 .f32) (main_arg21 : FVec F S256x1 .f32) (main_arg22 : FVec F S1 .f32) : IVec S256x1 1 × IVec S256x72x128 1 × IVec S256x72x128 1 × IVec S256x72x128 1 :=
  let main_c : IVec S_ 1 := constantI S_ 1 1#1
  let main_v0 : IVec S256x72x128 1 := broadcastInDim S256x72x128 ![] bcast_S_S256x72x128 main_c
  let main_c_0 : IVec S_ 1 := constantI S_ 1 0#1
  let main_v1 : IVec S256x1 1 := broadcastInDim S256x1 ![] bcast_S_S256x1 main_c_0
  (main_v1, main_v0, main_v0, main_v0)
-- ==== Pre_finite_inputs.lean ====
abbrev S8x256x128 : Shape := ⟨3, ![8, 256, 128]⟩
abbrev S16384x128 : Shape := ⟨2, ![16384, 128]⟩
abbrev S16384 : Shape := ⟨1, ![16384]⟩
abbrev S18432 : Shape := ⟨1, ![18432]⟩
abbrev S8x128x128 : Shape := ⟨3, ![8, 128, 128]⟩
abbrev S8x128 : Shape := ⟨2, ![8, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S256x1 : Shape := ⟨2, ![256, 1]⟩
abbrev S1 : Shape := ⟨1, ![1]⟩
abbrev S_ : Shape := ⟨0, ![]⟩

class Facts : Prop where
  bcast_S_S8x256x128 : S_.BroadcastsInDim S8x256x128 (![] : Fin 0 → Fin S8x256x128.rank)
  bcast_S_S16384x128 : S_.BroadcastsInDim S16384x128 (![] : Fin 0 → Fin S16384x128.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S128x128 : S_.BroadcastsInDim S128x128 (![] : Fin 0 → Fin S128x128.rank)
  bcast_S_S128 : S_.BroadcastsInDim S128 (![] : Fin 0 → Fin S128.rank)
  bcast_S_S128x256 : S_.BroadcastsInDim S128x256 (![] : Fin 0 → Fin S128x256.rank)
  bcast_S_S256 : S_.BroadcastsInDim S256 (![] : Fin 0 → Fin S256.rank)
  bcast_S_S256x128 : S_.BroadcastsInDim S256x128 (![] : Fin 0 → Fin S256x128.rank)

variable [Facts]

def fn_part2 {F : FTy → Type} [FloatOps F] (main_arg17 : FVec F S128x128 .f32) (main_arg18 : FVec F S128x128 .f32) (main_v2 : IVec S8x256x128 1) (main_v5 : IVec S16384x128 1) (main_v8 : IVec S8x128x128 1) (main_v11 : IVec S8x128 1) (main_v14 : IVec S128x128 1) (main_v17 : IVec S128 1) (main_v20 : IVec S128x256 1) (main_v23 : IVec S256 1) (main_v26 : IVec S256x128 1) (main_v29 : IVec S128 1) (main_v32 : IVec S128x128 1) (main_v35 : IVec S128x128 1) : IVec S8x256x128 1 × IVec S16384x128 1 × IVec S8x128x128 1 × IVec S8x128 1 × IVec S128x128 1 × IVec S128 1 × IVec S128x256 1 × IVec S256 1 × IVec S256x128 1 × IVec S128 1 × IVec S128x128 1 × IVec S128x128 1 × IVec S128x128 1 × IVec S128x128 1 :=
  let main_v36 : FVec F S128x128 .f32 := Host.absf main_arg17
  let main_cst_11 : FVec F S_ .f32 := constant S_ .f32 0x7F800000#32
  let main_v37 : FVec F S128x128 .f32 := broadcastInDim S128x128 ![] bcast_S_S128x128 main_cst_11
  let main_v38 : IVec S128x128 1 := cmpf .olt main_v36 main_v37
  let main_v39 : FVec F S128x128 .f32 := Host.absf main_arg18
  let main_cst_12 : FVec F S_ .f32 := constant S_ .f32 0x7F800000#32
  let main_v40 : FVec F S128x128 .f32 := broadcastInDim S128x128 ![] bcast_S_S128x128 main_cst_12
  let main_v41 : IVec S128x128 1 := cmpf .olt main_v39 main_v40
  (main_v2, main_v5, main_v8, main_v11, main_v14, main_v17, main_v20, main_v23, main_v26, main_v29, main_v32, main_v35, main_v38, main_v41)

def fn_part1 {F : FTy → Type} [FloatOps F] (main_arg9 : FVec F S128x256 .f32) (main_arg10 : FVec F S256 .f32) (main_arg11 : FVec F S256x128 .f32) (main_arg12 : FVec F S128 .f32) (main_arg15 : FVec F S128x128 .f32) (main_arg16 : FVec F S128x128 .f32) (main_arg17 : FVec F S128x128 .f32) (main_arg18 : FVec F S128x128 .f32) (main_v2 : IVec S8x256x128 1) (main_v5 : IVec S16384x128 1) (main_v8 : IVec S8x128x128 1) (main_v11 : IVec S8x128 1) (main_v14 : IVec S128x128 1) (main_v17 : IVec S128 1) : IVec S8x256x128 1 × IVec S16384x128 1 × IVec S8x128x128 1 × IVec S8x128 1 × IVec S128x128 1 × IVec S128 1 × IVec S128x256 1 × IVec S256 1 × IVec S256x128 1 × IVec S128 1 × IVec S128x128 1 × IVec S128x128 1 × IVec S128x128 1 × IVec S128x128 1 :=
  let main_v18 : FVec F S128x256 .f32 := Host.absf main_arg9
  let main_cst_5 : FVec F S_ .f32 := constant S_ .f32 0x7F800000#32
  let main_v19 : FVec F S128x256 .f32 := broadcastInDim S128x256 ![] bcast_S_S128x256 main_cst_5
  let main_v20 : IVec S128x256 1 := cmpf .olt main_v18 main_v19
  let main_v21 : FVec F S256 .f32 := Host.absf main_arg10
  let main_cst_6 : FVec F S_ .f32 := constant S_ .f32 0x7F800000#32
  let main_v22 : FVec F S256 .f32 := broadcastInDim S256 ![] bcast_S_S256 main_cst_6
  let main_v23 : IVec S256 1 := cmpf .olt main_v21 main_v22
  let main_v24 : FVec F S256x128 .f32 := Host.absf main_arg11
  let main_cst_7 : FVec F S_ .f32 := constant S_ .f32 0x7F800000#32
  let main_v25 : FVec F S256x128 .f32 := broadcastInDim S256x128 ![] bcast_S_S256x128 main_cst_7
  let main_v26 : IVec S256x128 1 := cmpf .olt main_v24 main_v25
  let main_v27 : FVec F S128 .f32 := Host.absf main_arg12
  let main_cst_8 : FVec F S_ .f32 := constant S_ .f32 0x7F800000#32
  let main_v28 : FVec F S128 .f32 := broadcastInDim S128 ![] bcast_S_S128 main_cst_8
  let main_v29 : IVec S128 1 := cmpf .olt main_v27 main_v28
  let main_v30 : FVec F S128x128 .f32 := Host.absf main_arg15
  let main_cst_9 : FVec F S_ .f32 := constant S_ .f32 0x7F800000#32
  let main_v31 : FVec F S128x128 .f32 := broadcastInDim S128x128 ![] bcast_S_S128x128 main_cst_9
  let main_v32 : IVec S128x128 1 := cmpf .olt main_v30 main_v31
  let main_v33 : FVec F S128x128 .f32 := Host.absf main_arg16
  let main_cst_10 : FVec F S_ .f32 := constant S_ .f32 0x7F800000#32
  let main_v34 : FVec F S128x128 .f32 := broadcastInDim S128x128 ![] bcast_S_S128x128 main_cst_10
  let main_v35 : IVec S128x128 1 := cmpf .olt main_v33 main_v34
  fn_part2 (F := F) main_arg17 main_arg18 main_v2 main_v5 main_v8 main_v11 main_v14 main_v17 main_v20 main_v23 main_v26 main_v29 main_v32 main_v35

def fn {F : FTy → Type} [FloatOps F] (main_arg0 : FVec F S8x256x128 .f32) (main_arg1 : FVec F S16384x128 .f32) (main_arg2 : IVec S16384 32) (main_arg3 : IVec S18432 32) (main_arg4 : FVec F S8x128x128 .f32) (main_arg5 : FVec F S8x128 .f32) (main_arg6 : FVec F S128x128 .f32) (main_arg7 : FVec F S128 .f32) (main_arg8 : FVec F S128x128 .f32) (main_arg9 : FVec F S128x256 .f32) (main_arg10 : FVec F S256 .f32) (main_arg11 : FVec F S256x128 .f32) (main_arg12 : FVec F S128 .f32) (main_arg13 : FVec F S256x128 .f32) (main_arg14 : FVec F S128 .f32) (main_arg15 : FVec F S128x128 .f32) (main_arg16 : FVec F S128x128 .f32) (main_arg17 : FVec F S128x128 .f32) (main_arg18 : FVec F S128x128 .f32) (main_arg19 : FVec F S128x256 .f32) (main_arg20 : FVec F S256 .f32) (main_arg21 : FVec F S256x1 .f32) (main_arg22 : FVec F S1 .f32) : IVec S8x256x128 1 × IVec S16384x128 1 × IVec S8x128x128 1 × IVec S8x128 1 × IVec S128x128 1 × IVec S128 1 × IVec S128x256 1 × IVec S256 1 × IVec S256x128 1 × IVec S128 1 × IVec S128x128 1 × IVec S128x128 1 × IVec S128x128 1 × IVec S128x128 1 :=
  let main_v0 : FVec F S8x256x128 .f32 := Host.absf main_arg0
  let main_cst : FVec F S_ .f32 := constant S_ .f32 0x7F800000#32
  let main_v1 : FVec F S8x256x128 .f32 := broadcastInDim S8x256x128 ![] bcast_S_S8x256x128 main_cst
  let main_v2 : IVec S8x256x128 1 := cmpf .olt main_v0 main_v1
  let main_v3 : FVec F S16384x128 .f32 := Host.absf main_arg1
  let main_cst_0 : FVec F S_ .f32 := constant S_ .f32 0x7F800000#32
  let main_v4 : FVec F S16384x128 .f32 := broadcastInDim S16384x128 ![] bcast_S_S16384x128 main_cst_0
  let main_v5 : IVec S16384x128 1 := cmpf .olt main_v3 main_v4
  let main_v6 : FVec F S8x128x128 .f32 := Host.absf main_arg4
  let main_cst_1 : FVec F S_ .f32 := constant S_ .f32 0x7F800000#32
  let main_v7 : FVec F S8x128x128 .f32 := broadcastInDim S8x128x128 ![] bcast_S_S8x128x128 main_cst_1
  let main_v8 : IVec S8x128x128 1 := cmpf .olt main_v6 main_v7
  let main_v9 : FVec F S8x128 .f32 := Host.absf main_arg5
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_v12 : FVec F S128x128 .f32 := Host.absf main_arg6
  let main_cst_3 : FVec F S_ .f32 := constant S_ .f32 0x7F800000#32
  let main_v13 : FVec F S128x128 .f32 := broadcastInDim S128x128 ![] bcast_S_S128x128 main_cst_3
  let main_v14 : IVec S128x128 1 := cmpf .olt main_v12 main_v13
  let main_v15 : FVec F S128 .f32 := Host.absf main_arg7
  let main_cst_4 : FVec F S_ .f32 := constant S_ .f32 0x7F800000#32
  let main_v16 : FVec F S128 .f32 := broadcastInDim S128 ![] bcast_S_S128 main_cst_4
  let main_v17 : IVec S128 1 := cmpf .olt main_v15 main_v16
  fn_part1 (F := F) main_arg9 main_arg10 main_arg11 main_arg12 main_arg15 main_arg16 main_arg17 main_arg18 main_v2 main_v5 main_v8 main_v11 main_v14 main_v17
-- ==== Kernel.lean ====
abbrev S8x256x128 : Shape := ⟨3, ![8, 256, 128]⟩
abbrev S16384x128 : Shape := ⟨2, ![16384, 128]⟩
abbrev S16384 : Shape := ⟨1, ![16384]⟩
abbrev S18432 : Shape := ⟨1, ![18432]⟩
abbrev S8x128x128 : Shape := ⟨3, ![8, 128, 128]⟩
abbrev S8x128 : Shape := ⟨2, ![8, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S256x1 : Shape := ⟨2, ![256, 1]⟩
abbrev S1 : Shape := ⟨1, ![1]⟩
abbrev S256x64x128 : Shape := ⟨3, ![256, 64, 128]⟩
abbrev S1x128 : Shape := ⟨2, ![1, 128]⟩
abbrev S1x256 : Shape := ⟨2, ![1, 256]⟩
abbrev S1x1 : Shape := ⟨2, ![1, 1]⟩
abbrev S256x72x128 : Shape := ⟨3, ![256, 72, 128]⟩
abbrev S8x64x128 : Shape := ⟨3, ![8, 64, 128]⟩
abbrev S64x64x128 : Shape := ⟨3, ![64, 64, 128]⟩
abbrev S64x72x128 : Shape := ⟨3, ![64, 72, 128]⟩
abbrev S64x1 : Shape := ⟨2, ![64, 1]⟩
abbrev S1x64x128 : Shape := ⟨3, ![1, 64, 128]⟩
abbrev S64x128 : Shape := ⟨2, ![64, 128]⟩
abbrev S1x128x128 : Shape := ⟨3, ![1, 128, 128]⟩
abbrev S64x1x128 : Shape := ⟨3, ![64, 1, 128]⟩
abbrev S64x8x128 : Shape := ⟨3, ![64, 8, 128]⟩
abbrev S4096x128 : Shape := ⟨2, ![4096, 128]⟩
abbrev S64x8x64 : Shape := ⟨3, ![64, 8, 64]⟩
abbrev S64x64 : Shape := ⟨2, ![64, 64]⟩
abbrev S64x64x1 : Shape := ⟨3, ![64, 64, 1]⟩
abbrev S64x8 : Shape := ⟨2, ![64, 8]⟩
abbrev S64x8x1 : Shape := ⟨3, ![64, 8, 1]⟩
abbrev S4608x128 : Shape := ⟨2, ![4608, 128]⟩
abbrev S4608x256 : Shape := ⟨2, ![4608, 256]⟩
abbrev S64x72x256 : Shape := ⟨3, ![64, 72, 256]⟩
abbrev S64x64x256 : Shape := ⟨3, ![64, 64, 256]⟩
abbrev S64x8x256 : Shape := ⟨3, ![64, 8, 256]⟩
abbrev S64x72x32 : Shape := ⟨3, ![64, 72, 32]⟩
abbrev S64x72x72 : Shape := ⟨3, ![64, 72, 72]⟩
abbrev S64x72 : Shape := ⟨2, ![64, 72]⟩
abbrev S64x72x1 : Shape := ⟨3, ![64, 72, 1]⟩
abbrev S64x32 : Shape := ⟨2, ![64, 32]⟩
abbrev S64x256 : Shape := ⟨2, ![64, 256]⟩

abbrev nBuf : Space → Nat
  | .hbm => 34
  | .vmem => 31
  | .smem => 0
  | _ => 0

abbrev bufTy : (tb : Table) → Fin (tcTables nBuf tb) → BufTy
  | .hbm, ⟨0, _⟩ => ⟨S8x256x128, .f32⟩
  | .hbm, ⟨1, _⟩ => ⟨S16384x128, .f32⟩
  | .hbm, ⟨2, _⟩ => ⟨S16384, .i32⟩
  | .hbm, ⟨3, _⟩ => ⟨S18432, .i32⟩
  | .hbm, ⟨4, _⟩ => ⟨S8x128x128, .f32⟩
  | .hbm, ⟨5, _⟩ => ⟨S8x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S256x128, .f32⟩
  | .hbm, ⟨14, _⟩ => ⟨S128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x256, .f32⟩
  | .hbm, ⟨20, _⟩ => ⟨S256, .f32⟩
  | .hbm, ⟨21, _⟩ => ⟨S256x1, .f32⟩
  | .hbm, ⟨22, _⟩ => ⟨S1, .f32⟩
  | .hbm, ⟨23, _⟩ => ⟨S256x64x128, .f32⟩
  | .hbm, ⟨24, _⟩ => ⟨S1x128, .f32⟩
  | .hbm, ⟨25, _⟩ => ⟨S1x256, .f32⟩
  | .hbm, ⟨26, _⟩ => ⟨S1x128, .f32⟩
  | .hbm, ⟨27, _⟩ => ⟨S1x128, .f32⟩
  | .hbm, ⟨28, _⟩ => ⟨S1x256, .f32⟩
  | .hbm, ⟨29, _⟩ => ⟨S1x1, .f32⟩
  | .hbm, ⟨30, _⟩ => ⟨S256x72x128, .f32⟩
  | .hbm, ⟨31, _⟩ => ⟨S256x72x128, .f32⟩
  | .hbm, ⟨32, _⟩ => ⟨S256x72x128, .f32⟩
  | .hbm, ⟨33, _⟩ => ⟨S256x1, .f32⟩
  | .local _ .vmem, ⟨0, _⟩ => ⟨S8x64x128, .f32⟩
  | .local _ .vmem, ⟨1, _⟩ => ⟨S8x64x128, .f32⟩
  | .local _ .vmem, ⟨2, _⟩ => ⟨S64x64x128, .f32⟩
  | .local _ .vmem, ⟨3, _⟩ => ⟨S64x64x128, .f32⟩
  | .local _ .vmem, ⟨4, _⟩ => ⟨S8x128x128, .f32⟩
  | .local _ .vmem, ⟨5, _⟩ => ⟨S8x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S128x256, .f32⟩
  | .local _ .vmem, ⟨10, _⟩ => ⟨S1x256, .f32⟩
  | .local _ .vmem, ⟨11, _⟩ => ⟨S256x128, .f32⟩
  | .local _ .vmem, ⟨12, _⟩ => ⟨S1x128, .f32⟩
  | .local _ .vmem, ⟨13, _⟩ => ⟨S256x128, .f32⟩
  | .local _ .vmem, ⟨14, _⟩ => ⟨S1x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x256, .f32⟩
  | .local _ .vmem, ⟨20, _⟩ => ⟨S1x256, .f32⟩
  | .local _ .vmem, ⟨21, _⟩ => ⟨S256x1, .f32⟩
  | .local _ .vmem, ⟨22, _⟩ => ⟨S1x1, .f32⟩
  | .local _ .vmem, ⟨23, _⟩ => ⟨S64x72x128, .f32⟩
  | .local _ .vmem, ⟨24, _⟩ => ⟨S64x72x128, .f32⟩
  | .local _ .vmem, ⟨25, _⟩ => ⟨S64x72x128, .f32⟩
  | .local _ .vmem, ⟨26, _⟩ => ⟨S64x72x128, .f32⟩
  | .local _ .vmem, ⟨27, _⟩ => ⟨S64x72x128, .f32⟩
  | .local _ .vmem, ⟨28, _⟩ => ⟨S64x72x128, .f32⟩
  | .local _ .vmem, ⟨29, _⟩ => ⟨S64x1, .f32⟩
  | .local _ .vmem, ⟨30, _⟩ => ⟨S64x1, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7_0 : Ref sig .tc := ⟨.hbm, 30, rfl⟩
abbrev main_v7_1 : Ref sig .tc := ⟨.hbm, 31, rfl⟩
abbrev main_v7_2 : Ref sig .tc := ⟨.hbm, 32, rfl⟩
abbrev main_v7_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg21_1 : Ref sig .tc := ⟨.vmem, 24, rfl⟩
abbrev cc0_stg22_0 : Ref sig .tc := ⟨.vmem, 25, rfl⟩
abbrev cc0_stg22_1 : Ref sig .tc := ⟨.vmem, 26, rfl⟩
abbrev cc0_stg23_0 : Ref sig .tc := ⟨.vmem, 27, rfl⟩
abbrev cc0_stg23_1 : Ref sig .tc := ⟨.vmem, 28, rfl⟩
abbrev cc0_stg24_0 : Ref sig .tc := ⟨.vmem, 29, rfl⟩
abbrev cc0_stg24_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem21_1 : DmaSem sig := 24
abbrev cc0_sem22_0 : DmaSem sig := 25
abbrev cc0_sem22_1 : DmaSem sig := 26
abbrev cc0_sem23_0 : DmaSem sig := 27
abbrev cc0_sem23_1 : DmaSem sig := 28
abbrev cc0_sem24_0 : DmaSem sig := 29
abbrev cc0_sem24_1 : DmaSem sig := 30

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S64x72x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S64x72x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S64x72x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S64x1 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== KernelIdeal.lean ====
variable {F : FTy → Type} [FloatOps F] [Named F]
def κ : String → Option EReal := fun
  | "inv_nodes" => some ((1 / 72 : ℝ) : EReal)
  | _ => none
-- ==== ReferenceIdeal.lean ====
abbrev S8x256x128 : Shape := ⟨3, ![8, 256, 128]⟩
abbrev S16384x128 : Shape := ⟨2, ![16384, 128]⟩
abbrev S16384 : Shape := ⟨1, ![16384]⟩
abbrev S18432 : Shape := ⟨1, ![18432]⟩
abbrev S8x128x128 : Shape := ⟨3, ![8, 128, 128]⟩
abbrev S8x128 : Shape := ⟨2, ![8, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S256x1 : Shape := ⟨2, ![256, 1]⟩
abbrev S1 : Shape := ⟨1, ![1]⟩
abbrev S8x1x128 : Shape := ⟨3, ![8, 1, 128]⟩
abbrev S_ : Shape := ⟨0, ![]⟩
abbrev S1x128 : Shape := ⟨2, ![1, 128]⟩
abbrev S256x64x128 : Shape := ⟨3, ![256, 64, 128]⟩
abbrev S256x8x128 : Shape := ⟨3, ![256, 8, 128]⟩
abbrev S256x64x8 : Shape := ⟨3, ![256, 64, 8]⟩
abbrev S256x72x72 : Shape := ⟨3, ![256, 72, 72]⟩
abbrev S2 : Shape := ⟨1, ![2]⟩
abbrev S256x8x64 : Shape := ⟨3, ![256, 8, 64]⟩
abbrev S72x72 : Shape := ⟨2, ![72, 72]⟩
abbrev S1x72x72 : Shape := ⟨3, ![1, 72, 72]⟩
abbrev S256x72 : Shape := ⟨2, ![256, 72]⟩
abbrev S256x72x1 : Shape := ⟨3, ![256, 72, 1]⟩
abbrev S256x1x72 : Shape := ⟨3, ![256, 1, 72]⟩
abbrev S256x72x128 : Shape := ⟨3, ![256, 72, 128]⟩
abbrev S256x72x256 : Shape := ⟨3, ![256, 72, 256]⟩
abbrev S1x1x256 : Shape := ⟨3, ![1, 1, 256]⟩
abbrev S1x1x128 : Shape := ⟨3, ![1, 1, 128]⟩
abbrev S256x72x4x32 : Shape := ⟨4, ![256, 72, 4, 32]⟩
abbrev S256x4x72x32 : Shape := ⟨4, ![256, 4, 72, 32]⟩
abbrev S256x4x72x72 : Shape := ⟨4, ![256, 4, 72, 72]⟩
abbrev S256x4x72 : Shape := ⟨3, ![256, 4, 72]⟩
abbrev S256x4x72x1 : Shape := ⟨4, ![256, 4, 72, 1]⟩
abbrev S256x256 : Shape := ⟨2, ![256, 256]⟩
abbrev S1x256 : Shape := ⟨2, ![1, 256]⟩
abbrev S1x1 : Shape := ⟨2, ![1, 1]⟩

abbrev nBuf : Space → Nat
  | .hbm => 169
  | .vmem => 0
  | .smem => 0
  | _ => 0

abbrev hbmTy0_0 (i : Nat) : BufTy := match i % 128 with
  | 0 => ⟨S8x256x128, .f32⟩
  | 1 => ⟨S16384x128, .f32⟩
  | 2 => ⟨S16384, .i32⟩
  | 3 => ⟨S18432, .i32⟩
  | 4 => ⟨S8x128x128, .f32⟩
  | 5 => ⟨S8x128, .f32⟩
  | 6 => ⟨S128x128, .f32⟩
  | 7 => ⟨S128, .f32⟩
  | 8 => ⟨S128x128, .f32⟩
  | 9 => ⟨S128x256, .f32⟩
  | 10 => ⟨S256, .f32⟩
  | 11 => ⟨S256x128, .f32⟩
  | 12 => ⟨S128, .f32⟩
  | 13 => ⟨S256x128, .f32⟩
  | 14 => ⟨S128, .f32⟩
  | 15 => ⟨S128x128, .f32⟩
  | 16 => ⟨S128x128, .f32⟩
  | 17 => ⟨S128x128, .f32⟩
  | 18 => ⟨S128x128, .f32⟩
  | 19 => ⟨S128x256, .f32⟩
  | 20 => ⟨S256, .f32⟩
  | 21 => ⟨S256x1, .f32⟩
  | 22 => ⟨S1, .f32⟩
  | 23 => ⟨S8x256x128, .f32⟩
  | 24 => ⟨S8x1x128, .f32⟩
  | 25 => ⟨S8x256x128, .f32⟩
  | 26 => ⟨S8x256x128, .f32⟩
  | 27 => ⟨S_, .f32⟩
  | 28 => ⟨S8x256x128, .f32⟩
  | 29 => ⟨S8x256x128, .f32⟩
  | 30 => ⟨S16384x128, .f32⟩
  | 31 => ⟨S1x128, .f32⟩
  | 32 => ⟨S16384x128, .f32⟩
  | 33 => ⟨S16384x128, .f32⟩
  | 34 => ⟨S_, .f32⟩
  | 35 => ⟨S16384x128, .f32⟩
  | 36 => ⟨S16384x128, .f32⟩
  | 37 => ⟨S256x64x128, .f32⟩
  | 38 => ⟨S256x8x128, .f32⟩
  | 39 => ⟨S256x8x128, .f32⟩
  | 40 => ⟨S256x64x8, .f32⟩
  | 41 => ⟨S256x64x8, .f32⟩
  | 42 => ⟨S256x64x8, .f32⟩
  | 43 => ⟨S_, .f32⟩
  | 44 => ⟨S256x64x8, .f32⟩
  | 45 => ⟨S256x64x8, .f32⟩
  | 46 => ⟨S_, .f32⟩
  | 47 => ⟨S256x64x8, .f32⟩
  | 48 => ⟨S256x64x8, .f32⟩
  | 49 => ⟨S_, .f32⟩
  | 50 => ⟨S256x64x8, .f32⟩
  | 51 => ⟨S256x64x8, .i1⟩
  | 52 => ⟨S_, .f32⟩
  | 53 => ⟨S_, .f32⟩
  | 54 => ⟨S256x64x8, .f32⟩
  | 55 => ⟨S256x64x8, .f32⟩
  | 56 => ⟨S_, .f32⟩
  | 57 => ⟨S256x72x72, .f32⟩
  | 58 => ⟨S_, .i32⟩
  | 59 => ⟨S1, .i32⟩
  | 60 => ⟨S_, .i32⟩
  | 61 => ⟨S1, .i32⟩
  | 62 => ⟨S2, .i32⟩
  | 63 => ⟨S256x72x72, .f32⟩
  | 64 => ⟨S256x8x64, .f32⟩
  | 65 => ⟨S_, .i32⟩
  | 66 => ⟨S1, .i32⟩
  | 67 => ⟨S_, .i32⟩
  | 68 => ⟨S1, .i32⟩
  | 69 => ⟨S2, .i32⟩
  | 70 => ⟨S256x72x72, .f32⟩
  | 71 => ⟨S72x72, .i32⟩
  | 72 => ⟨S72x72, .i32⟩
  | 73 => ⟨S_, .i32⟩
  | 74 => ⟨S72x72, .i32⟩
  | 75 => ⟨S72x72, .i32⟩
  | 76 => ⟨S72x72, .i1⟩
  | 77 => ⟨S72x72, .f32⟩
  | 78 => ⟨S1x72x72, .f32⟩
  | 79 => ⟨S256x72x72, .f32⟩
  | 80 => ⟨S256x72x72, .f32⟩
  | 81 => ⟨S_, .f32⟩
  | 82 => ⟨S256x72, .f32⟩
  | 83 => ⟨S256x72, .f32⟩
  | 84 => ⟨S_, .f32⟩
  | 85 => ⟨S256x72, .f32⟩
  | 86 => ⟨S256x72, .f32⟩
  | 87 => ⟨S256x72x1, .f32⟩
  | 88 => ⟨S256x72x72, .f32⟩
  | 89 => ⟨S256x72x72, .f32⟩
  | 90 => ⟨S256x1x72, .f32⟩
  | 91 => ⟨S256x72x72, .f32⟩
  | 92 => ⟨S256x72x72, .f32⟩
  | 93 => ⟨S256x72x128, .f32⟩
  | 94 => ⟨S256x72x128, .f32⟩
  | 95 => ⟨S256x72x256, .f32⟩
  | 96 => ⟨S1x1x256, .f32⟩
  | 97 => ⟨S256x72x256, .f32⟩
  | 98 => ⟨S256x72x256, .f32⟩
  | 99 => ⟨S_, .f32⟩
  | 100 => ⟨S256x72x256, .f32⟩
  | 101 => ⟨S256x72x256, .f32⟩
  | 102 => ⟨S256x72x256, .f32⟩
  | 103 => ⟨S256x72x128, .f32⟩
  | 104 => ⟨S1x1x128, .f32⟩
  | 105 => ⟨S256x72x128, .f32⟩
  | 106 => ⟨S256x72x128, .f32⟩
  | 107 => ⟨S256x72x256, .f32⟩
  | 108 => ⟨S256x72x128, .f32⟩
  | 109 => ⟨S1x1x128, .f32⟩
  | 110 => ⟨S256x72x128, .f32⟩
  | 111 => ⟨S256x72x128, .f32⟩
  | 112 => ⟨S256x72x128, .f32⟩
  | 113 => ⟨S256x72x4x32, .f32⟩
  | 114 => ⟨S256x4x72x32, .f32⟩
  | 115 => ⟨S256x72x128, .f32⟩
  | 116 => ⟨S256x72x4x32, .f32⟩
  | 117 => ⟨S256x4x72x32, .f32⟩
  | 118 => ⟨S256x72x128, .f32⟩
  | 119 => ⟨S256x72x4x32, .f32⟩
  | 120 => ⟨S256x4x72x32, .f32⟩
  | 121 => ⟨S256x4x72x72, .f32⟩
  | 122 => ⟨S_, .f32⟩
  | 123 => ⟨S_, .f32⟩
  | 124 => ⟨S_, .f32⟩
  | 125 => ⟨S256x4x72x72, .f32⟩
  | 126 => ⟨S256x4x72x72, .f32⟩
  | 127 => ⟨S_, .f32⟩
  | _ => ⟨S8x256x128, .f32⟩

abbrev hbmTy0_1 (i : Nat) : BufTy := match i % 128 with
  | 0 => ⟨S256x4x72, .f32⟩
  | 1 => ⟨S_, .f32⟩
  | 2 => ⟨S256x4x72, .f32⟩
  | 3 => ⟨S256x4x72, .f32⟩
  | 4 => ⟨S256x4x72x1, .f32⟩
  | 5 => ⟨S256x4x72x72, .f32⟩
  | 6 => ⟨S256x4x72x72, .f32⟩
  | 7 => ⟨S256x4x72x72, .f32⟩
  | 8 => ⟨S_, .f32⟩
  | 9 => ⟨S256x4x72, .f32⟩
  | 10 => ⟨S256x4x72x1, .f32⟩
  | 11 => ⟨S256x4x72x72, .f32⟩
  | 12 => ⟨S256x4x72x72, .f32⟩
  | 13 => ⟨S256x4x72x32, .f32⟩
  | 14 => ⟨S256x72x4x32, .f32⟩
  | 15 => ⟨S256x72x128, .f32⟩
  | 16 => ⟨S256x72x128, .f32⟩
  | 17 => ⟨S_, .f32⟩
  | 18 => ⟨S256x128, .f32⟩
  | 19 => ⟨S_, .f32⟩
  | 20 => ⟨S256x128, .f32⟩
  | 21 => ⟨S256x128, .f32⟩
  | 22 => ⟨S256x256, .f32⟩
  | 23 => ⟨S1x256, .f32⟩
  | 24 => ⟨S256x256, .f32⟩
  | 25 => ⟨S256x256, .f32⟩
  | 26 => ⟨S_, .f32⟩
  | 27 => ⟨S256x256, .f32⟩
  | 28 => ⟨S256x256, .f32⟩
  | 29 => ⟨S256x1, .f32⟩
  | 30 => ⟨S1x1, .f32⟩
  | 31 => ⟨S256x1, .f32⟩
  | 32 => ⟨S256x1, .f32⟩
  | 33 => ⟨S256x1, .f32⟩
  | 34 => ⟨S256x1, .f32⟩
  | 35 => ⟨S_, .f32⟩
  | 36 => ⟨S256x1, .f32⟩
  | 37 => ⟨S256x1, .f32⟩
  | 38 => ⟨S_, .f32⟩
  | 39 => ⟨S256x1, .f32⟩
  | 40 => ⟨S256x1, .f32⟩
  | _ => ⟨S8x256x128, .f32⟩

abbrev hbmTy (i : Nat) : BufTy := match i / 128 with
  | 0 => hbmTy0_0 i
  | 1 => hbmTy0_1 i
  | _ => ⟨S8x256x128, .f32⟩

abbrev bufTy : (tb : Table) → Fin (tcTables nBuf tb) → BufTy
  | .hbm, ⟨i, _⟩ => hbmTy i
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_call0_cst : Ref sig .tc := ⟨.hbm, 27, rfl⟩
abbrev main_call0_v0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_call1_cst : Ref sig .tc := ⟨.hbm, 34, rfl⟩
abbrev main_call1_v0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst : Ref sig .tc := ⟨.hbm, 43, rfl⟩
abbrev main_v16 : Ref sig .tc := ⟨.hbm, 44, rfl⟩
abbrev main_v17 : Ref sig .tc := ⟨.hbm, 45, rfl⟩
abbrev main_cst_0 : Ref sig .tc := ⟨.hbm, 46, rfl⟩
abbrev main_v18 : Ref sig .tc := ⟨.hbm, 47, rfl⟩
abbrev main_v19 : Ref sig .tc := ⟨.hbm, 48, rfl⟩
abbrev main_cst_1 : Ref sig .tc := ⟨.hbm, 49, rfl⟩
abbrev main_v20 : Ref sig .tc := ⟨.hbm, 50, rfl⟩
abbrev main_v21 : Ref sig .tc := ⟨.hbm, 51, rfl⟩
abbrev main_cst_2 : Ref sig .tc := ⟨.hbm, 52, rfl⟩
abbrev main_call2_v0 : Ref sig .tc := ⟨.hbm, 53, rfl⟩
abbrev main_call2_v1 : Ref sig .tc := ⟨.hbm, 54, rfl⟩
abbrev main_v22 : Ref sig .tc := ⟨.hbm, 55, rfl⟩
abbrev main_cst_3 : Ref sig .tc := ⟨.hbm, 56, rfl⟩
abbrev main_v23 : Ref sig .tc := ⟨.hbm, 57, rfl⟩
abbrev main_c : Ref sig .tc := ⟨.hbm, 58, rfl⟩
abbrev main_v24 : Ref sig .tc := ⟨.hbm, 59, rfl⟩
abbrev main_c_4 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_c_5 : Ref sig .tc := ⟨.hbm, 65, rfl⟩
abbrev main_v29 : Ref sig .tc := ⟨.hbm, 66, rfl⟩
abbrev main_c_6 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_c_7 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_8 : Ref sig .tc := ⟨.hbm, 81, rfl⟩
abbrev main_v42 : Ref sig .tc := ⟨.hbm, 82, rfl⟩
abbrev main_v43 : Ref sig .tc := ⟨.hbm, 83, rfl⟩
abbrev main_cst_9 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_call3_cst : Ref sig .tc := ⟨.hbm, 99, rfl⟩
abbrev main_call3_v0 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_10 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_11 : Ref sig .tc := ⟨.hbm, 127, rfl⟩
abbrev main_v83 : Ref sig .tc := ⟨.hbm, 128, rfl⟩
abbrev main_cst_12 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_13 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_14 : Ref sig .tc := ⟨.hbm, 145, rfl⟩
abbrev main_v98 : Ref sig .tc := ⟨.hbm, 146, rfl⟩
abbrev main_cst_15 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_call4_cst : Ref sig .tc := ⟨.hbm, 154, rfl⟩
abbrev main_call4_v0 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_16 : Ref sig .tc := ⟨.hbm, 163, rfl⟩
abbrev main_v112 : Ref sig .tc := ⟨.hbm, 164, rfl⟩
abbrev main_v113 : Ref sig .tc := ⟨.hbm, 165, rfl⟩
abbrev main_cst_17 : Ref sig .tc := ⟨.hbm, 166, rfl⟩
abbrev main_v114 : Ref sig .tc := ⟨.hbm, 167, rfl⟩
abbrev main_v115 : Ref sig .tc := ⟨.hbm, 168, rfl⟩

abbrev nD : Nat := 1
abbrev τ : Topo := Topo.v7x

variable {F : FTy → Type} [FloatOps F]
-- ==== Proof.Spec.lean ====
/- The mathematics of one graph of the batch, over extended reals: 64 drug nodes and 8 cell nodes, the thresholded
   bilinear links between them, two rounds of normalized message passing, and the attention readout.

   Two readings of the readout and of a round of messages stand side by side. The `K` one is the order of operations of
   the kernel, the `R` one that of the reference. Proof/Messages.lean and Proof/Readout.lean show them equal. -/
module

public import Idealize.ShloMosaic.PureOps.Ideal
public import Idealize.ShloMosaic.Lib.Pointwise

@[expose] public section

noncomputable section

namespace Cert.Graph

open Idealize.ShloMosaic

/-- What one graph reads: its own features, and the weights all graphs share. -/
structure Inputs where
  /-- features of the cell nodes -/
  cs : Fin 8 → Fin 128 → EReal
  /-- features of the drug nodes -/
  ds : Fin 64 → Fin 128 → EReal
  Wc : Fin 8 → Fin 128 → Fin 128 → EReal
  bc : Fin 8 → Fin 128 → EReal
  Wg : Fin 128 → Fin 128 → EReal
  bg : Fin 128 → EReal
  wgt : Fin 128 → Fin 128 → EReal
  W1 : Fin 128 → Fin 256 → EReal
  b1 : Fin 256 → EReal
  Wmu : Fin 256 → Fin 128 → EReal
  bmu : Fin 128 → EReal
  Wlv : Fin 256 → Fin 128 → EReal
  blv : Fin 128 → EReal
  Wq : Fin 128 → Fin 128 → EReal
  Wk : Fin 128 → Fin 128 → EReal
  Wv : Fin 128 → Fin 128 → EReal
  Wo : Fin 128 → Fin 128 → EReal
  Wp1 : Fin 128 → Fin 256 → EReal
  bp1 : Fin 256 → EReal
  Wp2 : Fin 256 → EReal
  bp2 : EReal

/-- The logistic function of a score, or 0 where it is below one half. -/
def link (s : EReal) : EReal :=
  if Ideal.ofBits FTy.f32 1056964608#32 ≤ Ideal.logistic s then Ideal.logistic s else 0

/-- Drug nodes first, cell nodes after them. -/
def nodes {α : Type} (xd : Fin 64 → α) (xc : Fin 8 → α) (i : Fin 72) : α :=
  if h : i.val < 64 then xd ⟨i.val, h⟩ else xc ⟨i.val - 64, by omega⟩

/-- One round of messages in the order of the kernel: the links scale what a node receives, the node's own value is added
    to it, and the inverse root degrees scale before and after. -/
def propK (w : Fin 8 → Fin 64 → EReal) (dd : Fin 64 → EReal) (dc : Fin 8 → EReal) (X : Fin 72 → EReal) (i : Fin 72) :
    EReal :=
  if h : i.val < 64 then
    dd ⟨i.val, h⟩ * (dd ⟨i.val, h⟩ * X i + ∑ c : Fin 8, w c ⟨i.val, h⟩ * (dc c * X ⟨64 + c.val, by omega⟩))
  else
    dc ⟨i.val - 64, by omega⟩ * (dc ⟨i.val - 64, by omega⟩ * X i
      + ∑ d : Fin 64, w ⟨i.val - 64, by omega⟩ d * (dd d * X ⟨d.val, by omega⟩))

/-- The adjacency matrix with its self loops. -/
def adj (w : Fin 8 → Fin 64 → EReal) (i j : Fin 72) : EReal :=
  (if hi : i.val < 64 then (if hj : j.val < 64 then 0 else w ⟨j.val - 64, by omega⟩ ⟨i.val, hi⟩)
   else (if hj : j.val < 64 then w ⟨i.val - 64, by omega⟩ ⟨j.val, hj⟩ else 0)) + (if i = j then 1 else 0)

/-- The inverse root of a node's degree, the degree a row sum of the adjacency matrix. -/
def dinvR (w : Fin 8 → Fin 64 → EReal) (i : Fin 72) : EReal :=
  Ideal.div 1 (Ideal.sqrt (∑ j, adj w i j))

/-- One round of messages as the product by the normalized adjacency matrix. -/
def propR (w : Fin 8 → Fin 64 → EReal) (X : Fin 72 → EReal) (i : Fin 72) : EReal :=
  ∑ j, dinvR w i * adj w i j * dinvR w j * X j

/-- A linear map, a bias and the positive part. -/
def layer {n p : ℕ} (W : Fin n → Fin p → EReal) (b : Fin p → EReal) (x : Fin n → EReal) (f : Fin p) : EReal :=
  max (∑ k, x k * W k f + b f) 0

namespace Inputs

variable (I : Inputs)

def cell (c : Fin 8) (f : Fin 128) : EReal := layer (I.Wc c) (I.bc c) (I.cs c) f
def drug (d : Fin 64) (f : Fin 128) : EReal := layer I.Wg I.bg (I.ds d) f

/-- The score of a cell node against a drug node. -/
def score (c : Fin 8) (d : Fin 64) : EReal := ∑ e, (∑ o, I.cell c o * I.wgt e o) * I.drug d e

def w (c : Fin 8) (d : Fin 64) : EReal := link (I.score c d)

/-- The inverse root degrees, the degrees one more than the sums of the links. -/
def dd (d : Fin 64) : EReal := Ideal.rsqrt (1 + ∑ c, I.w c d)
def dc (c : Fin 8) : EReal := Ideal.rsqrt (1 + ∑ d, I.w c d)

/-- The hidden layer, for a way `P` of passing messages. -/
def hidden (P : (Fin 72 → EReal) → Fin 72 → EReal) (i : Fin 72) (f : Fin 256) : EReal :=
  layer I.W1 I.b1 (fun k => P (fun j => nodes I.drug I.cell j k) i) f

/-- The messages of the hidden layer. -/
def second (P : (Fin 72 → EReal) → Fin 72 → EReal) (i : Fin 72) (f : Fin 256) : EReal :=
  P (fun j => I.hidden P j f) i

def muOf (P : (Fin 72 → EReal) → Fin 72 → EReal) (i : Fin 72) (f : Fin 128) : EReal :=
  ∑ k, I.second P i k * I.Wmu k f + I.bmu f

def lvOf (P : (Fin 72 → EReal) → Fin 72 → EReal) (i : Fin 72) (f : Fin 128) : EReal :=
  ∑ k, I.second P i k * I.Wlv k f + I.blv f

/-- The latent mean, and the log variance, in the order of the kernel. -/
def mu : Fin 72 → Fin 128 → EReal := I.muOf (propK I.w I.dd I.dc)
def lv : Fin 72 → Fin 128 → EReal := I.lvOf (propK I.w I.dd I.dc)

/-- The predictor over a graph's readout. -/
def predict (hg : Fin 128 → EReal) : EReal :=
  Ideal.logistic (∑ k, layer I.Wp1 I.bp1 hg k * I.Wp2 k + I.bp2)

end Inputs

/-- The column of entry `j` of head `h`. -/
def col (h : Fin 4) (j : Fin 32) : Fin 128 := ⟨h.val * 32 + j.val, by omega⟩

/-- The greatest of a row, from −∞. -/
def rowMax (s : Fin 72 → EReal) : EReal := Finset.univ.fold max ⊥ s

/-- A row's exponentials, the row's greatest entry taken off first. -/
def expo (s : Fin 72 → EReal) (i : Fin 72) : EReal := Ideal.exp (s i - rowMax s)

section Readout

variable (z : Fin 72 → Fin 128 → EReal) (Wq Wk Wv Wo : Fin 128 → Fin 128 → EReal)

/-- A projection of the nodes. -/
def proj (W : Fin 128 → Fin 128 → EReal) (i : Fin 72) (j : Fin 128) : EReal := ∑ k, z i k * W k j

/-- The scores of a head in the order of the kernel: the scale is in the weights of the queries. -/
def scoreK (sc : EReal) (h : Fin 4) (q k : Fin 72) : EReal :=
  ∑ j : Fin 32, proj z (fun a b => Wq a b * sc) q (col h j) * proj z Wk k (col h j)

/-- The mean over the queries of the attention that a node gets, in the order of the kernel. -/
def meanK (sc : EReal) (h : Fin 4) (k : Fin 72) : EReal :=
  ∑ q, Ideal.div ((1 / 72 : ℝ) : EReal) (∑ l, expo (scoreK z Wq Wk sc h q) l) * expo (scoreK z Wq Wk sc h q) k

/-- The readout in the order of the kernel: the mean is taken before the values and the output projection. -/
def readoutK (sc : EReal) (f : Fin 128) : EReal :=
  ∑ j : Fin 128, (∑ k, meanK z Wq Wk sc ⟨j.val / 32, by omega⟩ k * proj z Wv k j) * Wo j f

/-- The scores of a head in the order of the reference. -/
def scoreR (rt : EReal) (h : Fin 4) (q k : Fin 72) : EReal :=
  Ideal.div (∑ j : Fin 32, proj z Wq q (col h j) * proj z Wk k (col h j)) rt

/-- The attention of the reference. -/
def attR (rt : EReal) (h : Fin 4) (q k : Fin 72) : EReal :=
  Ideal.div (expo (scoreR z Wq Wk rt h q) k) (∑ l, expo (scoreR z Wq Wk rt h q) l)

/-- The readout in the order of the reference: the mean over the nodes is taken last. -/
def readoutR (rt n : EReal) (f : Fin 128) : EReal :=
  Ideal.div (∑ q, ∑ j : Fin 128, (∑ k, attR z Wq Wk rt ⟨j.val / 32, by omega⟩ q k * proj z Wv k j) * Wo j f) n

end Readout

end Cert.Graph

end
-- ==== Proof.Args.lean ====
/- One graph of the batch, read off the argument arrays. -/
module

public import proofs.«01_k».proof.Proof.Spec

@[expose] public section

set_option maxRecDepth 16384

noncomputable section

namespace Cert.Graph

open Idealize.ShloMosaic

/-- What graph `b` reads of the arguments. The two index lists are not read. -/
def ofArgs
    (a0 : Vec Ideal ⟨3, ![8, 256, 128]⟩ .f32)
    (a1 : Vec Ideal ⟨2, ![16384, 128]⟩ .f32)
    (a4 : Vec Ideal ⟨3, ![8, 128, 128]⟩ .f32)
    (a5 : Vec Ideal ⟨2, ![8, 128]⟩ .f32)
    (a6 : Vec Ideal ⟨2, ![128, 128]⟩ .f32)
    (a7 : Vec Ideal ⟨1, ![128]⟩ .f32)
    (a8 : Vec Ideal ⟨2, ![128, 128]⟩ .f32)
    (a9 : Vec Ideal ⟨2, ![128, 256]⟩ .f32)
    (a10 : Vec Ideal ⟨1, ![256]⟩ .f32)
    (a11 : Vec Ideal ⟨2, ![256, 128]⟩ .f32)
    (a12 : Vec Ideal ⟨1, ![128]⟩ .f32)
    (a13 : Vec Ideal ⟨2, ![256, 128]⟩ .f32)
    (a14 : Vec Ideal ⟨1, ![128]⟩ .f32)
    (a15 : Vec Ideal ⟨2, ![128, 128]⟩ .f32)
    (a16 : Vec Ideal ⟨2, ![128, 128]⟩ .f32)
    (a17 : Vec Ideal ⟨2, ![128, 128]⟩ .f32)
    (a18 : Vec Ideal ⟨2, ![128, 128]⟩ .f32)
    (a19 : Vec Ideal ⟨2, ![128, 256]⟩ .f32)
    (a20 : Vec Ideal ⟨1, ![256]⟩ .f32)
    (a21 : Vec Ideal ⟨2, ![256, 1]⟩ .f32)
    (a22 : Vec Ideal ⟨1, ![1]⟩ .f32)
    (b : Fin 256) : Inputs where
  cs c k := a0 (ix3 c b k)
  ds d k := a1 (ix2 ⟨b.val * 64 + d.val, by omega⟩ k)
  Wc c k f := a4 (ix3 c k f)
  bc c f := a5 (ix2 c f)
  Wg k f := a6 (ix2 k f)
  bg f := a7 (ix1 f)
  wgt e o := a8 (ix2 e o)
  W1 k f := a9 (ix2 k f)
  b1 f := a10 (ix1 f)
  Wmu k f := a11 (ix2 k f)
  bmu f := a12 (ix1 f)
  Wlv k f := a13 (ix2 k f)
  blv f := a14 (ix1 f)
  Wq k f := a15 (ix2 k f)
  Wk k f := a16 (ix2 k f)
  Wv k f := a17 (ix2 k f)
  Wo k f := a18 (ix2 k f)
  Wp1 k f := a19 (ix2 k f)
  bp1 f := a20 (ix1 f)
  Wp2 k := a21 (ix2 k 0)
  bp2 := a22 (ix1 0)

end Cert.Graph

end
-- ==== Proof.Block.lean ====
/- What the kernel computes from one block of 64 graphs, at an index: each value of the body is the value of
   Proof/Spec.lean for one graph of the block (`ofBlock`). -/
module

public import proofs.«01_k».proof.Proof.Spec
public import proofs.«01_k».proof.Proof.Gen.KernelIdeal.Frame
public import Idealize.ShloMosaic.Lib.Pointwise

@[expose] public section

set_option maxRecDepth 16384

noncomputable section

namespace Cert.KernelIdeal.Block

open Cert.KernelIdeal Cert.KernelIdeal.Gen Idealize.ShloMosaic Cert.Graph

variable (x0 : Vec Ideal S8x64x128 .f32) (x1 : Vec Ideal S64x64x128 .f32) (x2 : Vec Ideal S8x128x128 .f32)
  (x3 : Vec Ideal S8x128 .f32) (x4 : Vec Ideal S128x128 .f32) (x5 : Vec Ideal S1x128 .f32) (x6 : Vec Ideal S128x128 .f32)
  (x7 : Vec Ideal S128x256 .f32) (x8 : Vec Ideal S1x256 .f32) (x9 : Vec Ideal S256x128 .f32) (x10 : Vec Ideal S1x128 .f32)
  (x11 : Vec Ideal S256x128 .f32) (x12 : Vec Ideal S1x128 .f32) (x13 : Vec Ideal S128x128 .f32)
  (x14 : Vec Ideal S128x128 .f32) (x15 : Vec Ideal S128x128 .f32) (x16 : Vec Ideal S128x128 .f32)
  (x17 : Vec Ideal S128x256 .f32) (x18 : Vec Ideal S1x256 .f32) (x19 : Vec Ideal S256x1 .f32) (x20 : Vec Ideal S1x1 .f32)

/-- What graph `g` of the block reads. -/
def ofBlock (g : Fin 64) : Inputs where
  cs c k := x0 (ix3 c g k)
  ds d k := x1 (ix3 g d k)
  Wc c k f := x2 (ix3 c k f)
  bc c f := x3 (ix2 c f)
  Wg k f := x4 (ix2 k f)
  bg f := x5 (ix2 0 f)
  wgt e o := x6 (ix2 e o)
  W1 k f := x7 (ix2 k f)
  b1 f := x8 (ix2 0 f)
  Wmu k f := x9 (ix2 k f)
  bmu f := x10 (ix2 0 f)
  Wlv k f := x11 (ix2 k f)
  blv f := x12 (ix2 0 f)
  Wq k f := x13 (ix2 k f)
  Wk k f := x14 (ix2 k f)
  Wv k f := x15 (ix2 k f)
  Wo k f := x16 (ix2 k f)
  Wp1 k f := x17 (ix2 k f)
  bp1 f := x18 (ix2 0 f)
  Wp2 k := x19 (ix2 k 0)
  bp2 := x20 (ix2 0 0)

/-- The cell nodes, the eight of them set side by side. -/
theorem cells_at (g : Fin 64) (c : Fin 8) (f : Fin 128) :
    k0_pay15 (k0_pay37 x0 x1 x2 x3 x4 x5 x6 x7 x8 x9 x10 x11 x12 x13 x14 x15 x16 x17 x18 x19 x20) (k0_pay38 x0 x1 x2 x3 x4 x5 x6 x7 x8 x9 x10 x11 x12 x13 x14 x15 x16 x17 x18 x19 x20) (k0_pay39 x0 x1 x2 x3 x4 x5 x6 x7 x8 x9 x10 x11 x12 x13 x14 x15 x16 x17 x18 x19 x20) (k0_pay40 x0 x1 x2 x3 x4 x5 x6 x7 x8 x9 x10 x11 x12 x13 x14 x15 x16 x17 x18 x19 x20) (k0_pay41 x0 x1 x2 x3 x4 x5 x6 x7 x8 x9 x10 x11 x12 x13 x14 x15 x16 x17 x18 x19 x20) (k0_pay42 x0 x1 x2 x3 x4 x5 x6 x7 x8 x9 x10 x11 x12 x13 x14 x15 x16 x17 x18 x19 x20) (k0_pay43 x0 x1 x2 x3 x4 x5 x6 x7 x8 x9 x10 x11 x12 x13 x14 x15 x16 x17 x18 x19 x20)
      (k0_pay44 x0 x1 x2 x3 x4 x5 x6 x7 x8 x9 x10 x11 x12 x13 x14 x15 x16 x17 x18 x19 x20) (ix3 g c f) = (ofBlock x0 x1 x2 x3 x4 x5 x6 x7 x8 x9 x10 x11 x12 x13 x14 x15 x16 x17 x18 x19 x20 g).cell c f := by
  pointwise [k0_pay15, k0_pay37, k0_pay38, k0_pay39, k0_pay40, k0_pay41, k0_pay42, k0_pay43, k0_pay44, k0_pay2, k0_pay3,
    k0_pay4, k0_pay5, k0_pay6, k0_pay7, k0_pay8, k0_pay9, k0_pay10, k0_pay11, k0_pay12, k0_pay13, k0_pay14,
    Inputs.cell, layer, ofBlock]
  fin_vals c with hc
  all_goals simp only [hc, Nat.reduceSub, Nat.reduceLT, ↓reduceDIte]
  all_goals
    obtain ⟨v, hv⟩ := c
    obtain rfl : v = _ := hc
    rfl

/-- The drug nodes. -/
theorem drugs_at (g : Fin 64) (d : Fin 64) (f : Fin 128) :
    k0_pay16 (View.ld x1 r0_24) (View.ld x4 r0_25) (View.ld x5 r0_26) (ix3 g d f) = (ofBlock x0 x1 x2 x3 x4 x5 x6 x7 x8 x9 x10 x11 x12 x13 x14 x15 x16 x17 x18 x19 x20 g).drug d f := by
  pointwise [k0_pay16, Inputs.drug, layer, ofBlock]

/-- The links. -/
theorem links_at (g : Fin 64) (c : Fin 8) (d : Fin 64) :
    k0_pay17 (k0_pay37 x0 x1 x2 x3 x4 x5 x6 x7 x8 x9 x10 x11 x12 x13 x14 x15 x16 x17 x18 x19 x20) (k0_pay38 x0 x1 x2 x3 x4 x5 x6 x7 x8 x9 x10 x11 x12 x13 x14 x15 x16 x17 x18 x19 x20) (k0_pay39 x0 x1 x2 x3 x4 x5 x6 x7 x8 x9 x10 x11 x12 x13 x14 x15 x16 x17 x18 x19 x20) (k0_pay40 x0 x1 x2 x3 x4 x5 x6 x7 x8 x9 x10 x11 x12 x13 x14 x15 x16 x17 x18 x19 x20) (k0_pay41 x0 x1 x2 x3 x4 x5 x6 x7 x8 x9 x10 x11 x12 x13 x14 x15 x16 x17 x18 x19 x20) (k0_pay42 x0 x1 x2 x3 x4 x5 x6 x7 x8 x9 x10 x11 x12 x13 x14 x15 x16 x17 x18 x19 x20) (k0_pay43 x0 x1 x2 x3 x4 x5 x6 x7 x8 x9 x10 x11 x12 x13 x14 x15 x16 x17 x18 x19 x20)
      (k0_pay44 x0 x1 x2 x3 x4 x5 x6 x7 x8 x9 x10 x11 x12 x13 x14 x15 x16 x17 x18 x19 x20) (View.ld x1 r0_24) (View.ld x4 r0_25) (View.ld x5 r0_26) (View.ld x6 r0_25) (ix3 g c d)
      = (ofBlock x0 x1 x2 x3 x4 x5 x6 x7 x8 x9 x10 x11 x12 x13 x14 x15 x16 x17 x18 x19 x20 g).w c d := by
  pointwise [k0_pay17]
  simp only [cells_at, drugs_at x0 x1 x2 x3 x4 x5 x6 x7 x8 x9 x10 x11 x12 x13 x14 x15 x16 x17 x18 x19 x20]
  rfl

theorem cells_at' (g : Fin 64) (c : Fin 8) (f : Fin 128) : k0_pay45 x0 x1 x2 x3 x4 x5 x6 x7 x8 x9 x10 x11 x12 x13 x14 x15 x16 x17 x18 x19 x20 (ix3 g c f) = (ofBlock x0 x1 x2 x3 x4 x5 x6 x7 x8 x9 x10 x11 x12 x13 x14 x15 x16 x17 x18 x19 x20 g).cell c f :=
  cells_at x0 x1 x2 x3 x4 x5 x6 x7 x8 x9 x10 x11 x12 x13 x14 x15 x16 x17 x18 x19 x20 g c f

theorem drugs_at' (g : Fin 64) (d : Fin 64) (f : Fin 128) : k0_pay46 x0 x1 x2 x3 x4 x5 x6 x7 x8 x9 x10 x11 x12 x13 x14 x15 x16 x17 x18 x19 x20 (ix3 g d f) = (ofBlock x0 x1 x2 x3 x4 x5 x6 x7 x8 x9 x10 x11 x12 x13 x14 x15 x16 x17 x18 x19 x20 g).drug d f :=
  drugs_at x0 x1 x2 x3 x4 x5 x6 x7 x8 x9 x10 x11 x12 x13 x14 x15 x16 x17 x18 x19 x20 g d f

theorem links_at' (g : Fin 64) (c : Fin 8) (d : Fin 64) : k0_pay47 x0 x1 x2 x3 x4 x5 x6 x7 x8 x9 x10 x11 x12 x13 x14 x15 x16 x17 x18 x19 x20 (ix3 g c d) = (ofBlock x0 x1 x2 x3 x4 x5 x6 x7 x8 x9 x10 x11 x12 x13 x14 x15 x16 x17 x18 x19 x20 g).w c d :=
  links_at x0 x1 x2 x3 x4 x5 x6 x7 x8 x9 x10 x11 x12 x13 x14 x15 x16 x17 x18 x19 x20 g c d

/-- The inverse root degrees of the drug nodes. -/
theorem dd_at (g : Fin 64) (d : Fin 64) : k0_pay48 x0 x1 x2 x3 x4 x5 x6 x7 x8 x9 x10 x11 x12 x13 x14 x15 x16 x17 x18 x19 x20 (ix3 g d 0) = (ofBlock x0 x1 x2 x3 x4 x5 x6 x7 x8 x9 x10 x11 x12 x13 x14 x15 x16 x17 x18 x19 x20 g).dd d := by
  pointwise [k0_pay48, k0_pay18]
  simp only [links_at]
  rfl

/-- The inverse root degrees of the cell nodes. -/
theorem dc_at (g : Fin 64) (c : Fin 8) : k0_pay49 x0 x1 x2 x3 x4 x5 x6 x7 x8 x9 x10 x11 x12 x13 x14 x15 x16 x17 x18 x19 x20 (ix2 g c) = (ofBlock x0 x1 x2 x3 x4 x5 x6 x7 x8 x9 x10 x11 x12 x13 x14 x15 x16 x17 x18 x19 x20 g).dc c := by
  pointwise [k0_pay49, k0_pay19]
  simp only [links_at]
  rfl

/-- Two rounds of messages with a layer between, of any nodes, links and degrees. -/
theorem rounds_at (v104 : FVec Ideal S64x8x128 .f32) (v118 : FVec Ideal S64x64x128 .f32) (v130 : FVec Ideal S64x8x64 .f32)
    (v135 : FVec Ideal S64x64x1 .f32) (v139 : FVec Ideal S64x8 .f32) (v155 : Vec Ideal S128x256 .f32)
    (v157 : Vec Ideal S1x256 .f32) (g : Fin 64) (i : Fin 72) (f : Fin 256) (h : g.val * 72 + i.val < 4608) :
    k0_pay20 v104 v118 v130 v135 v139 v155 v157 (ix2 ⟨g.val * 72 + i.val, h⟩ f)
      = propK (fun c d => v130 (ix3 g c d)) (fun d => v135 (ix3 g d 0)) (fun c => v139 (ix2 g c)) (fun j =>
          layer (fun k p => v155 (ix2 k p)) (fun p => v157 (ix2 0 p)) (fun k =>
            propK (fun c d => v130 (ix3 g c d)) (fun d => v135 (ix3 g d 0)) (fun c => v139 (ix2 g c))
              (fun l => nodes (fun d k => v118 (ix3 g d k)) (fun c k => v104 (ix3 g c k)) l k) j) f) i := by
  have e1 : ∀ c : Fin 8, (g.val * 72 + (64 + c.val)) % 72 = 64 + c.val := fun c => by omega
  have e2 : ∀ d : Fin 64, (g.val * 72 + d.val) % 72 = d.val := fun d => by omega
  have n1 : ∀ c : Fin 8, (64 + c.val < 64) = False := fun c => by simp
  have n2 : ∀ d : Fin 64, (d.val < 64) = True := fun d => by simp
  have n3 : ∀ c : Fin 8, 64 + c.val - 64 = c.val := fun c => by omega
  pointwise [k0_pay20, propK, layer, nodes]
  by_cases hi : i.val < 64
  · simp only [hi, ↓reduceDIte, e1, e2, n1, n3, Fin.eta]
  · have e3 : 64 + (i.val - 64) = i.val := by omega
    have e4 : (g.val * 72 + i.val) % 72 = i.val := by omega
    simp only [hi, ↓reduceDIte, e1, e2, e3, e4, n2, Fin.eta]

/-- The messages of the hidden layer. -/
theorem second_at (g : Fin 64) (i : Fin 72) (f : Fin 256) (h : g.val * 72 + i.val < 4608) :
    k0_pay20 (k0_pay45 x0 x1 x2 x3 x4 x5 x6 x7 x8 x9 x10 x11 x12 x13 x14 x15 x16 x17 x18 x19 x20) (k0_pay46 x0 x1 x2 x3 x4 x5 x6 x7 x8 x9 x10 x11 x12 x13 x14 x15 x16 x17 x18 x19 x20) (k0_pay47 x0 x1 x2 x3 x4 x5 x6 x7 x8 x9 x10 x11 x12 x13 x14 x15 x16 x17 x18 x19 x20) (k0_pay48 x0 x1 x2 x3 x4 x5 x6 x7 x8 x9 x10 x11 x12 x13 x14 x15 x16 x17 x18 x19 x20) (k0_pay49 x0 x1 x2 x3 x4 x5 x6 x7 x8 x9 x10 x11 x12 x13 x14 x15 x16 x17 x18 x19 x20) (View.ld x7 r0_27) (View.ld x8 r0_28)
        (ix2 ⟨g.val * 72 + i.val, h⟩ f)
      = (ofBlock x0 x1 x2 x3 x4 x5 x6 x7 x8 x9 x10 x11 x12 x13 x14 x15 x16 x17 x18 x19 x20 g).second (propK (ofBlock x0 x1 x2 x3 x4 x5 x6 x7 x8 x9 x10 x11 x12 x13 x14 x15 x16 x17 x18 x19 x20 g).w (ofBlock x0 x1 x2 x3 x4 x5 x6 x7 x8 x9 x10 x11 x12 x13 x14 x15 x16 x17 x18 x19 x20 g).dd (ofBlock x0 x1 x2 x3 x4 x5 x6 x7 x8 x9 x10 x11 x12 x13 x14 x15 x16 x17 x18 x19 x20 g).dc) i f := by
  rw [rounds_at]
  simp only [cells_at', drugs_at', links_at', dd_at, dc_at]
  pointwise []
  rfl

end Cert.KernelIdeal.Block

end
-- ==== Proof.Outputs.lean ====
/- The four arrays that the kernel writes for one block of 64 graphs, at an index. -/
module

public import proofs.«01_k».proof.Proof.Spec
public import proofs.«01_k».proof.Proof.Block
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen Idealize.ShloMosaic Cert.Graph

variable (x0 : Vec Ideal S8x64x128 .f32) (x1 : Vec Ideal S64x64x128 .f32) (x2 : Vec Ideal S8x128x128 .f32)
  (x3 : Vec Ideal S8x128 .f32) (x4 : Vec Ideal S128x128 .f32) (x5 : Vec Ideal S1x128 .f32) (x6 : Vec Ideal S128x128 .f32)
  (x7 : Vec Ideal S128x256 .f32) (x8 : Vec Ideal S1x256 .f32) (x9 : Vec Ideal S256x128 .f32) (x10 : Vec Ideal S1x128 .f32)
  (x11 : Vec Ideal S256x128 .f32) (x12 : Vec Ideal S1x128 .f32) (x13 : Vec Ideal S128x128 .f32)
  (x14 : Vec Ideal S128x128 .f32) (x15 : Vec Ideal S128x128 .f32) (x16 : Vec Ideal S128x128 .f32)
  (x17 : Vec Ideal S128x256 .f32) (x18 : Vec Ideal S1x256 .f32) (x19 : Vec Ideal S256x1 .f32) (x20 : Vec Ideal S1x1 .f32)

/-- The scale of the queries. -/
def scale : EReal := Ideal.div 1 (Ideal.sqrt (Ideal.ofBits .f32 0x42000000#32))

/-- The latent mean, its nodes in one axis with the graphs. -/
theorem mu_at (g : Fin 64) (i : Fin 72) (f : Fin 128) (h : g.val * 72 + i.val < 4608) :
    k0_pay23 (k0_pay50 x0 x1 x2 x3 x4 x5 x6 x7 x8 x9 x10 x11 x12 x13 x14 x15 x16 x17 x18 x19 x20) (k0_pay51 x0 x1 x2 x3 x4 x5 x6 x7 x8 x9 x10 x11 x12 x13 x14 x15 x16 x17 x18 x19 x20) (ix2 ⟨g.val * 72 + i.val, h⟩ f) = (ofBlock x0 x1 x2 x3 x4 x5 x6 x7 x8 x9 x10 x11 x12 x13 x14 x15 x16 x17 x18 x19 x20 g).mu i f := by
  pointwise [k0_pay23, k0_pay50, k0_pay51, k0_pay21, k0_pay22]
  simp only [second_at]
  rfl

theorem q_at (g : Fin 64) (i : Fin 72) (f : Fin 128) :
    k0_pay52 x0 x1 x2 x3 x4 x5 x6 x7 x8 x9 x10 x11 x12 x13 x14 x15 x16 x17 x18 x19 x20 (ix3 g i f) = proj (ofBlock x0 x1 x2 x3 x4 x5 x6 x7 x8 x9 x10 x11 x12 x13 x14 x15 x16 x17 x18 x19 x20 g).mu (fun a b => (ofBlock x0 x1 x2 x3 x4 x5 x6 x7 x8 x9 x10 x11 x12 x13 x14 x15 x16 x17 x18 x19 x20 g).Wq a b * scale) i f := by
  pointwise [k0_pay52, k0_pay27]
  simp only [mu_at]
  rfl

theorem k_at (g : Fin 64) (i : Fin 72) (f : Fin 128) :
    k0_pay53 x0 x1 x2 x3 x4 x5 x6 x7 x8 x9 x10 x11 x12 x13 x14 x15 x16 x17 x18 x19 x20 (ix3 g i f) = proj (ofBlock x0 x1 x2 x3 x4 x5 x6 x7 x8 x9 x10 x11 x12 x13 x14 x15 x16 x17 x18 x19 x20 g).mu (ofBlock x0 x1 x2 x3 x4 x5 x6 x7 x8 x9 x10 x11 x12 x13 x14 x15 x16 x17 x18 x19 x20 g).Wk i f := by
  pointwise [k0_pay53, k0_pay28]
  simp only [mu_at]
  rfl

theorem v_at (g : Fin 64) (i : Fin 72) (f : Fin 128) :
    k0_pay54 x0 x1 x2 x3 x4 x5 x6 x7 x8 x9 x10 x11 x12 x13 x14 x15 x16 x17 x18 x19 x20 (ix3 g i f) = proj (ofBlock x0 x1 x2 x3 x4 x5 x6 x7 x8 x9 x10 x11 x12 x13 x14 x15 x16 x17 x18 x19 x20 g).mu (ofBlock x0 x1 x2 x3 x4 x5 x6 x7 x8 x9 x10 x11 x12 x13 x14 x15 x16 x17 x18 x19 x20 g).Wv i f := by
  pointwise [k0_pay54, k0_pay29]
  simp only [mu_at]
  rfl

theorem ninf : Ideal.ofBits .f32 0xFF800000#32 = ⊥ := by
  simp [Ideal.ofBits, Ideal.ieee]

theorem inv_nodes : (Named.named κ "inv_nodes" 0x3C638E39#32 : Ideal .f32) = ((1 / 72 : ℝ) : EReal) := rfl

/-- The first head's values and scores. -/
theorem v0_at (g : Fin 64) (i : Fin 72) (j : Fin 32) :
    k0_pay30 (k0_pay50 x0 x1 x2 x3 x4 x5 x6 x7 x8 x9 x10 x11 x12 x13 x14 x15 x16 x17 x18 x19 x20) (k0_pay51 x0 x1 x2 x3 x4 x5 x6 x7 x8 x9 x10 x11 x12 x13 x14 x15 x16 x17 x18 x19 x20) (View.ld x15 r0_25) (ix3 g i j)
      = proj (ofBlock x0 x1 x2 x3 x4 x5 x6 x7 x8 x9 x10 x11 x12 x13 x14 x15 x16 x17 x18 x19 x20 g).mu (ofBlock x0 x1 x2 x3 x4 x5 x6 x7 x8 x9 x10 x11 x12 x13 x14 x15 x16 x17 x18 x19 x20 g).Wv i (col 0 j) := by
  have e : col 0 j = ⟨j.val, by omega⟩ := Fin.ext (by simp [col])
  rw [← v_at, e]
  pointwise [k0_pay30, k0_pay54]

theorem s0_at (g : Fin 64) (q k : Fin 72) :
    k0_pay31 (k0_pay50 x0 x1 x2 x3 x4 x5 x6 x7 x8 x9 x10 x11 x12 x13 x14 x15 x16 x17 x18 x19 x20) (k0_pay51 x0 x1 x2 x3 x4 x5 x6 x7 x8 x9 x10 x11 x12 x13 x14 x15 x16 x17 x18 x19 x20) (View.ld x13 r0_25) (View.ld x14 r0_25) (ix3 g q k)
      = scoreK (ofBlock x0 x1 x2 x3 x4 x5 x6 x7 x8 x9 x10 x11 x12 x13 x14 x15 x16 x17 x18 x19 x20 g).mu (ofBlock x0 x1 x2 x3 x4 x5 x6 x7 x8 x9 x10 x11 x12 x13 x14 x15 x16 x17 x18 x19 x20 g).Wq (ofBlock x0 x1 x2 x3 x4 x5 x6 x7 x8 x9 x10 x11 x12 x13 x14 x15 x16 x17 x18 x19 x20 g).Wk scale 0 q k := by
  have e : ∀ j, col 0 j = ⟨j.val, by omega⟩ := fun j => Fin.ext (by simp [col])
  unfold scoreK
  simp only [← q_at, ← k_at, e]
  pointwise [k0_pay31, k0_pay52, k0_pay53]

/-- The last head's values and scores. -/
theorem v3_at (v : FVec Ideal S64x72x128 .f32) (g : Fin 64) (i : Fin 72) (j : Fin 32) :
    k0_pay35 v (ix3 g i j) = v (ix3 g i (col 3 j)) := by
  pointwise [k0_pay35, col]

theorem s3_at (q k : FVec Ideal S64x72x128 .f32) (g : Fin 64) (i l : Fin 72) :
    k0_pay36 q k (ix3 g i l) = ∑ j : Fin 32, q (ix3 g i (col 3 j)) * k (ix3 g l (col 3 j)) := by
  pointwise [k0_pay36, col]

/-- A head's entry, of its scores `s` and its values `v`. -/
def headK (s : Fin 72 → Fin 72 → EReal) (v : Fin 72 → EReal) : EReal :=
  ∑ k, (∑ q, Ideal.div ((1 / 72 : ℝ) : EReal) (∑ l, expo (s q) l) * expo (s q) k) * v k

theorem head0_at (v : FVec Ideal S64x72x32 .f32) (s : FVec Ideal S64x72x72 .f32) (g : Fin 64) (j : Fin 32) :
    k0_pay32 v s (ix2 g j) = headK (fun q k => s (ix3 g q k)) (fun k => v (ix3 g k j)) := by
  pointwise [k0_pay32, headK, expo, rowMax, ninf, inv_nodes]

theorem head1_at (q k v : FVec Ideal S64x72x128 .f32) (g : Fin 64) (j : Fin 32) :
    k0_pay33 q k v (ix2 g j)
      = headK (fun i l => ∑ j : Fin 32, q (ix3 g i (col 1 j)) * k (ix3 g l (col 1 j)))
          (fun i => v (ix3 g i (col 1 j))) := by
  pointwise [k0_pay33, headK, expo, rowMax, ninf, inv_nodes, col]

theorem head2_at (q k v : FVec Ideal S64x72x128 .f32) (g : Fin 64) (j : Fin 32) :
    k0_pay34 q k v (ix2 g j)
      = headK (fun i l => ∑ j : Fin 32, q (ix3 g i (col 2 j)) * k (ix3 g l (col 2 j)))
          (fun i => v (ix3 g i (col 2 j))) := by
  pointwise [k0_pay34, headK, expo, rowMax, ninf, inv_nodes, col]

theorem tail_at (h0 h1 h2 : FVec Ideal S64x32 .f32) (v : FVec Ideal S64x72x32 .f32) (s : FVec Ideal S64x72x72 .f32)
    (a : Vec Ideal S128x128 .f32) (b : Vec Ideal S128x256 .f32) (c : Vec Ideal S1x256 .f32) (d : Vec Ideal S256x1 .f32)
    (e : Vec Ideal S1x1 .f32) (g : Fin 64) (o : Fin 128 → EReal) (H0 : ∀ j, h0 (ix2 g j) = o (col 0 j))
    (H1 : ∀ j, h1 (ix2 g j) = o (col 1 j)) (H2 : ∀ j, h2 (ix2 g j) = o (col 2 j))
    (H3 : ∀ j, headK (fun q k => s (ix3 g q k)) (fun k => v (ix3 g k j)) = o (col 3 j)) :
    k0_pay1 h0 h1 h2 v s a b c d e (ix2 g 0)
      = Ideal.logistic (∑ x, layer (fun k p => b (ix2 k p)) (fun p => c (ix2 0 p)) (fun m => ∑ l, o l * a (ix2 l m)) x
          * d (ix2 x 0) + e (ix2 0 0)) := by
  pointwise [k0_pay1, layer, ninf, inv_nodes]
  refine congrArg Ideal.logistic (congrArg (· + e (ix2 0 0)) (Finset.sum_congr rfl fun x _ =>
    congrArg (· * d (ix2 x 0)) (congrArg (max · 0) (congrArg (· + c (ix2 0 x)) (Finset.sum_congr rfl fun m _ =>
      congrArg (· * b (ix2 m x)) (Finset.sum_congr rfl fun l _ => congrArg (· * a (ix2 l m)) ?_))))))
  by_cases c0 : l.val < 32
  · rw [dif_pos c0, H0]
    exact congrArg o (Fin.ext (by simp [col]))
  rw [dif_neg c0]
  by_cases c1 : l.val - 32 < 32
  · rw [dif_pos c1, H1]
    exact congrArg o (Fin.ext (by simp [col]; omega))
  rw [dif_neg c1]
  by_cases c2 : l.val - 32 - 32 < 32
  · rw [dif_pos c2, H2]
    exact congrArg o (Fin.ext (by simp [col]; omega))
  rw [dif_neg c2]
  refine (H3 ⟨l.val - 32 - 32 - 32, by omega⟩).trans (congrArg o (Fin.ext ?_))
  simp [col]
  omega

/-- The readout at a column, by its head. -/
theorem readout_col (z : Fin 72 → Fin 128 → EReal) (Wq Wk Wv : Fin 128 → Fin 128 → EReal) (sc : EReal) (h : Fin 4)
    (j : Fin 32) :
    headK (scoreK z Wq Wk sc h) (fun k => proj z Wv k (col h j))
      = ∑ k, meanK z Wq Wk sc ⟨(col h j).val / 32, by omega⟩ k * proj z Wv k (col h j) := by
  have e : (⟨(col h j).val / 32, by omega⟩ : Fin 4) = h := Fin.ext (by simp [col]; omega)
  rw [e]
  rfl

/-- The first array: the latent mean. -/
theorem out21_at (g : Fin 64) (i : Fin 72) (f : Fin 128) : out0_21 x0 x1 x2 x3 x4 x5 x6 x7 x8 x9 x10 x11 x12 x13 x14 x15 x16 x17 x18 x19 x20 (ix3 g i f) = (ofBlock x0 x1 x2 x3 x4 x5 x6 x7 x8 x9 x10 x11 x12 x13 x14 x15 x16 x17 x18 x19 x20 g).mu i f := by
  unfold out0_21
  rw [View.canon_unit_zero (View.eq_zero_of_forall (by decide))]
  pointwise [k0_pay24]
  exact mu_at x0 x1 x2 x3 x4 x5 x6 x7 x8 x9 x10 x11 x12 x13 x14 x15 x16 x17 x18 x19 x20 g i f _

/-- The second array: the log variance. -/
theorem out22_at (g : Fin 64) (i : Fin 72) (f : Fin 128) : out0_22 x0 x1 x2 x3 x4 x5 x6 x7 x8 x9 x10 x11 x12 x13 x14 x15 x16 x17 x18 x19 x20 (ix3 g i f) = (ofBlock x0 x1 x2 x3 x4 x5 x6 x7 x8 x9 x10 x11 x12 x13 x14 x15 x16 x17 x18 x19 x20 g).lv i f := by
  unfold out0_22
  rw [View.canon_unit_zero (View.eq_zero_of_forall (by decide))]
  pointwise [k0_pay26]
  simp only [second_at]
  rfl

/-- The third array: the latent mean again. -/
theorem out23_at (g : Fin 64) (i : Fin 72) (f : Fin 128) : out0_23 x0 x1 x2 x3 x4 x5 x6 x7 x8 x9 x10 x11 x12 x13 x14 x15 x16 x17 x18 x19 x20 (ix3 g i f) = (ofBlock x0 x1 x2 x3 x4 x5 x6 x7 x8 x9 x10 x11 x12 x13 x14 x15 x16 x17 x18 x19 x20 g).mu i f := by
  unfold out0_23
  rw [View.canon_unit_zero (View.eq_zero_of_forall (by decide))]
  pointwise [k0_pay25]
  exact mu_at x0 x1 x2 x3 x4 x5 x6 x7 x8 x9 x10 x11 x12 x13 x14 x15 x16 x17 x18 x19 x20 g i f _

/-- The fourth array: the predictor. -/
theorem out24_at (g : Fin 64) :
    out0_24 x0 x1 x2 x3 x4 x5 x6 x7 x8 x9 x10 x11 x12 x13 x14 x15 x16 x17 x18 x19 x20 (ix2 g 0) = (ofBlock x0 x1 x2 x3 x4 x5 x6 x7 x8 x9 x10 x11 x12 x13 x14 x15 x16 x17 x18 x19 x20 g).predict (readoutK (ofBlock x0 x1 x2 x3 x4 x5 x6 x7 x8 x9 x10 x11 x12 x13 x14 x15 x16 x17 x18 x19 x20 g).mu (ofBlock x0 x1 x2 x3 x4 x5 x6 x7 x8 x9 x10 x11 x12 x13 x14 x15 x16 x17 x18 x19 x20 g).Wq (ofBlock x0 x1 x2 x3 x4 x5 x6 x7 x8 x9 x10 x11 x12 x13 x14 x15 x16 x17 x18 x19 x20 g).Wk
      (ofBlock x0 x1 x2 x3 x4 x5 x6 x7 x8 x9 x10 x11 x12 x13 x14 x15 x16 x17 x18 x19 x20 g).Wv (ofBlock x0 x1 x2 x3 x4 x5 x6 x7 x8 x9 x10 x11 x12 x13 x14 x15 x16 x17 x18 x19 x20 g).Wo scale) := by
  unfold out0_24
  rw [View.canon_unit_zero (View.eq_zero_of_forall (by decide))]
  refine (tail_at _ _ _ _ _ _ _ _ _ _ g (fun j => ∑ k, meanK (ofBlock x0 x1 x2 x3 x4 x5 x6 x7 x8 x9 x10 x11 x12 x13 x14 x15 x16 x17 x18 x19 x20 g).mu (ofBlock x0 x1 x2 x3 x4 x5 x6 x7 x8 x9 x10 x11 x12 x13 x14 x15 x16 x17 x18 x19 x20 g).Wq (ofBlock x0 x1 x2 x3 x4 x5 x6 x7 x8 x9 x10 x11 x12 x13 x14 x15 x16 x17 x18 x19 x20 g).Wk scale
      ⟨j.val / 32, by omega⟩ k * proj (ofBlock x0 x1 x2 x3 x4 x5 x6 x7 x8 x9 x10 x11 x12 x13 x14 x15 x16 x17 x18 x19 x20 g).mu (ofBlock x0 x1 x2 x3 x4 x5 x6 x7 x8 x9 x10 x11 x12 x13 x14 x15 x16 x17 x18 x19 x20 g).Wv k j) ?_ ?_ ?_ ?_).trans ?_
  · intro j
    rw [← readout_col, head0_at]
    simp only [v0_at, s0_at]
  · intro j
    rw [← readout_col, head1_at]
    simp only [q_at, k_at, v_at]
    rfl
  · intro j
    rw [← readout_col, head2_at]
    simp only [q_at, k_at, v_at]
    rfl
  · intro j
    rw [← readout_col]
    simp only [v3_at, s3_at, q_at, k_at, v_at]
    rfl
  · pointwise []
    rfl

end Cert.KernelIdeal.Block

end
-- ==== Proof.Arrays.lean ====
/- The four arrays that the kernel leaves: each entry is the value of Proof/Spec.lean for its graph. -/
module

public import proofs.«01_k».proof.Proof.Args
public import proofs.«01_k».proof.Proof.Outputs
public import Idealize.ShloMosaic.Lib.Pipeline.ValueKit
public import Idealize.ShloMosaic.Lib.Claim

@[expose] public section

set_option maxRecDepth 16384

noncomputable section

namespace Cert.KernelIdeal.Arrays

open Cert.KernelIdeal Cert.KernelIdeal.Gen Cert.KernelIdeal.Block Idealize.ShloMosaic Cert.Graph

variable (m : (ℓ : Loc nD τ sig) → Buf (Elt Ideal) ℓ)

/-- Graph `b` of device `c`. -/
def graph (c : Dev nD) (b : Fin 256) : Inputs :=
  ofArgs (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) b

/-- Where each window's block lies. -/
theorem idx : ∀ t : Fin cfg0.N, win0_0.index t = ![0, t.val, 0] ∧ win0_1.index t = ![t.val, 0, 0] ∧ win0_2.index t = ![0, 0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![t.val, 0, 0] ∧ win0_22.index t = ![t.val, 0, 0] ∧ win0_23.index t = ![t.val, 0, 0] ∧ win0_24.index t = ![t.val, 0] :=
  (by decide +kernel : ∀ t : Fin grid0.N, _)

theorem lt_batch (t : Fin cfg0.N) (g : Fin 64) : t.val * 64 + g.val < 256 := by
  have h : t.val < 4 := by
    have h := t.isLt
    exact lt_of_lt_of_eq h N_0
  omega

theorem blk0 (c : Dev nD) (t : Fin cfg0.N) (i : Fin 8) (g : Fin 64) (k : Fin 128) :
    iblk m c 0 t (ix3 i g k) = m ((c.tc : Thread nD τ).loc main_arg0) (ix3 i ⟨t.val * 64 + g.val, lt_batch t g⟩ k) := by
  blk_ext! [iblk, V, idx t]

theorem blk1 (c : Dev nD) (t : Fin cfg0.N) (g d : Fin 64) (k : Fin 128) :
    iblk m c 1 t (ix3 g d k) =
      m ((c.tc : Thread nD τ).loc main_arg1) (ix2 ⟨(t.val * 64 + g.val) * 64 + d.val, by have := lt_batch t g; omega⟩ k) := by
  blk_ext! [iblk, V, idx t]

theorem blk2 (c : Dev nD) (t : Fin cfg0.N) : iblk m c 2 t = m ((c.tc : Thread nD τ).loc main_arg4) := by
  blk_ext! [iblk, V, idx t]

theorem blk3 (c : Dev nD) (t : Fin cfg0.N) : iblk m c 3 t = m ((c.tc : Thread nD τ).loc main_arg5) := by
  blk_ext! [iblk, V, idx t]

theorem blk4 (c : Dev nD) (t : Fin cfg0.N) : iblk m c 4 t = m ((c.tc : Thread nD τ).loc main_arg6) := by
  blk_ext! [iblk, V, idx t]

theorem blk5 (c : Dev nD) (t : Fin cfg0.N) (f : Fin 128) :
    iblk m c 5 t (ix2 0 f) = m ((c.tc : Thread nD τ).loc main_arg7) (ix1 f) := by
  blk_ext! [iblk, V, idx t]

theorem blk6 (c : Dev nD) (t : Fin cfg0.N) : iblk m c 6 t = m ((c.tc : Thread nD τ).loc main_arg8) := by
  blk_ext! [iblk, V, idx t]

theorem blk7 (c : Dev nD) (t : Fin cfg0.N) : iblk m c 7 t = m ((c.tc : Thread nD τ).loc main_arg9) := by
  blk_ext! [iblk, V, idx t]

theorem blk8 (c : Dev nD) (t : Fin cfg0.N) (f : Fin 256) :
    iblk m c 8 t (ix2 0 f) = m ((c.tc : Thread nD τ).loc main_arg10) (ix1 f) := by
  blk_ext! [iblk, V, idx t]

theorem blk9 (c : Dev nD) (t : Fin cfg0.N) : iblk m c 9 t = m ((c.tc : Thread nD τ).loc main_arg11) := by
  blk_ext! [iblk, V, idx t]

theorem blk10 (c : Dev nD) (t : Fin cfg0.N) (f : Fin 128) :
    iblk m c 10 t (ix2 0 f) = m ((c.tc : Thread nD τ).loc main_arg12) (ix1 f) := by
  blk_ext! [iblk, V, idx t]

theorem blk11 (c : Dev nD) (t : Fin cfg0.N) : iblk m c 11 t = m ((c.tc : Thread nD τ).loc main_arg13) := by
  blk_ext! [iblk, V, idx t]

theorem blk12 (c : Dev nD) (t : Fin cfg0.N) (f : Fin 128) :
    iblk m c 12 t (ix2 0 f) = m ((c.tc : Thread nD τ).loc main_arg14) (ix1 f) := by
  blk_ext! [iblk, V, idx t]

theorem blk13 (c : Dev nD) (t : Fin cfg0.N) : iblk m c 13 t = m ((c.tc : Thread nD τ).loc main_arg15) := by
  blk_ext! [iblk, V, idx t]

theorem blk14 (c : Dev nD) (t : Fin cfg0.N) : iblk m c 14 t = m ((c.tc : Thread nD τ).loc main_arg16) := by
  blk_ext! [iblk, V, idx t]

theorem blk15 (c : Dev nD) (t : Fin cfg0.N) : iblk m c 15 t = m ((c.tc : Thread nD τ).loc main_arg17) := by
  blk_ext! [iblk, V, idx t]

theorem blk16 (c : Dev nD) (t : Fin cfg0.N) : iblk m c 16 t = m ((c.tc : Thread nD τ).loc main_arg18) := by
  blk_ext! [iblk, V, idx t]

theorem blk17 (c : Dev nD) (t : Fin cfg0.N) : iblk m c 17 t = m ((c.tc : Thread nD τ).loc main_arg19) := by
  blk_ext! [iblk, V, idx t]

theorem blk18 (c : Dev nD) (t : Fin cfg0.N) (f : Fin 256) :
    iblk m c 18 t (ix2 0 f) = m ((c.tc : Thread nD τ).loc main_arg20) (ix1 f) := by
  blk_ext! [iblk, V, idx t]

theorem blk19 (c : Dev nD) (t : Fin cfg0.N) : iblk m c 19 t = m ((c.tc : Thread nD τ).loc main_arg21) := by
  blk_ext! [iblk, V, idx t]

theorem blk20 (c : Dev nD) (t : Fin cfg0.N) (f : Fin 1) :
    iblk m c 20 t (ix2 0 f) = m ((c.tc : Thread nD τ).loc main_arg22) (ix1 f) := by
  blk_ext! [iblk, V, idx t]

/-- The blocks of a grid point hold what its graphs read. -/
theorem block_eq (c : Dev nD) (t : Fin cfg0.N) (g : Fin 64) :
    ofBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) g = graph m c ⟨t.val * 64 + g.val, lt_batch t g⟩ := by
  unfold ofBlock graph ofArgs
  simp only [blk0 m c t, blk1 m c t, blk2 m c t, blk3 m c t, blk4 m c t, blk5 m c t, blk6 m c t, blk7 m c t, blk8 m c t, blk9 m c t, blk10 m c t, blk11 m c t, blk12 m c t, blk13 m c t, blk14 m c t, blk15 m c t, blk16 m c t, blk17 m c t, blk18 m c t, blk19 m c t, blk20 m c t]

/-- The grid point that writes graph `b`. -/
theorem graph_of (c : Dev nD) (t : Fin cfg0.N) (g : Fin 64) (b : Fin 256) (h : b.val = t.val * 64 + g.val) :
    graph m c b = ofBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) g := by
  rw [block_eq, show b = ⟨t.val * 64 + g.val, lt_batch t g⟩ from Fin.ext h]

/-- The latent means. -/
def MU (c : Dev nD) : Vec Ideal S256x72x128 .f32 :=
  fun j => (graph m c (j 0)).mu (j 1) (j 2)

/-- The latent log variances. -/
def LV (c : Dev nD) : Vec Ideal S256x72x128 .f32 :=
  fun j => (graph m c (j 0)).lv (j 1) (j 2)

/-- The predictions, one for each graph. -/
def PRED (c : Dev nD) : Vec Ideal S256x1 .f32 :=
  fun j => (graph m c (j 0)).predict (readoutK (graph m c (j 0)).mu (graph m c (j 0)).Wq (graph m c (j 0)).Wk
    (graph m c (j 0)).Wv (graph m c (j 0)).Wo scale)

theorem place21 (c : Dev nD) (t : Fin cfg0.N) (y : S64x72x128.Idx) (j : S256x72x128.Idx)
    (h0 : (j 0).val = t.val * 64 + (y 0).val) (h1 : (j 1).val = (y 1).val) (h2 : (j 2).val = (y 2).val) :
    out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y = MU m c j := by
  obtain ⟨g, i, f, rfl⟩ : ∃ (g : Fin 64) (i : Fin 72) (f : Fin 128), y = ix3 g i f := ⟨y 0, y 1, y 2, eq_ix3 y⟩
  obtain ⟨b, i', f', rfl⟩ : ∃ (b : Fin 256) (i' : Fin 72) (f' : Fin 128), j = ix3 b i' f' := ⟨j 0, j 1, j 2, eq_ix3 j⟩
  obtain rfl : i' = i := Fin.ext h1
  obtain rfl : f' = f := Fin.ext h2
  rw [out21_at, ← graph_of m c t g b h0]
  rfl

theorem final21 (c : Dev nD) : (dats m 0 c).arrAt 21 cfg0.N = MU m c := by
  refine (dats m 0 c).arrAt_eq_of_covers 21 _ (by decide +kernel) fun t hf y => ?_
  blk_simp
  rw [after0_21]
  refine place21 m c t y _ ?_ ?_ ?_
  all_goals
    blk_simp [idx t]
    try omega

theorem place22 (c : Dev nD) (t : Fin cfg0.N) (y : S64x72x128.Idx) (j : S256x72x128.Idx)
    (h0 : (j 0).val = t.val * 64 + (y 0).val) (h1 : (j 1).val = (y 1).val) (h2 : (j 2).val = (y 2).val) :
    out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y = LV m c j := by
  obtain ⟨g, i, f, rfl⟩ : ∃ (g : Fin 64) (i : Fin 72) (f : Fin 128), y = ix3 g i f := ⟨y 0, y 1, y 2, eq_ix3 y⟩
  obtain ⟨b, i', f', rfl⟩ : ∃ (b : Fin 256) (i' : Fin 72) (f' : Fin 128), j = ix3 b i' f' := ⟨j 0, j 1, j 2, eq_ix3 j⟩
  obtain rfl : i' = i := Fin.ext h1
  obtain rfl : f' = f := Fin.ext h2
  rw [out22_at, ← graph_of m c t g b h0]
  rfl

theorem final22 (c : Dev nD) : (dats m 0 c).arrAt 22 cfg0.N = LV m c := by
  refine (dats m 0 c).arrAt_eq_of_covers 22 _ (by decide +kernel) fun t hf y => ?_
  blk_simp
  rw [after0_22]
  refine place22 m c t y _ ?_ ?_ ?_
  all_goals
    blk_simp [idx t]
    try omega

theorem place23 (c : Dev nD) (t : Fin cfg0.N) (y : S64x72x128.Idx) (j : S256x72x128.Idx)
    (h0 : (j 0).val = t.val * 64 + (y 0).val) (h1 : (j 1).val = (y 1).val) (h2 : (j 2).val = (y 2).val) :
    out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y = MU m c j := by
  obtain ⟨g, i, f, rfl⟩ : ∃ (g : Fin 64) (i : Fin 72) (f : Fin 128), y = ix3 g i f := ⟨y 0, y 1, y 2, eq_ix3 y⟩
  obtain ⟨b, i', f', rfl⟩ : ∃ (b : Fin 256) (i' : Fin 72) (f' : Fin 128), j = ix3 b i' f' := ⟨j 0, j 1, j 2, eq_ix3 j⟩
  obtain rfl : i' = i := Fin.ext h1
  obtain rfl : f' = f := Fin.ext h2
  rw [out23_at, ← graph_of m c t g b h0]
  rfl

theorem final23 (c : Dev nD) : (dats m 0 c).arrAt 23 cfg0.N = MU m c := by
  refine (dats m 0 c).arrAt_eq_of_covers 23 _ (by decide +kernel) fun t hf y => ?_
  blk_simp
  rw [after0_23]
  refine place23 m c t y _ ?_ ?_ ?_
  all_goals
    blk_simp [idx t]
    try omega

theorem place24 (c : Dev nD) (t : Fin cfg0.N) (y : S64x1.Idx) (j : S256x1.Idx)
    (h0 : (j 0).val = t.val * 64 + (y 0).val) : out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y = PRED m c j := by
  obtain ⟨g, i, rfl⟩ : ∃ (g : Fin 64) (i : Fin 1), y = ix2 g i := ⟨y 0, y 1, eq_ix2 y⟩
  obtain ⟨b, i', rfl⟩ : ∃ (b : Fin 256) (i' : Fin 1), j = ix2 b i' := ⟨j 0, j 1, eq_ix2 j⟩
  obtain rfl : i = 0 := Subsingleton.elim _ _
  rw [out24_at, ← graph_of m c t g b h0]
  rfl

theorem final24 (c : Dev nD) : (dats m 0 c).arrAt 24 cfg0.N = PRED m c := by
  refine (dats m 0 c).arrAt_eq_of_covers 24 _ (by decide +kernel) fun t hf y => ?_
  blk_simp
  rw [after0_24]
  refine place24 m c t y _ ?_
  blk_simp [idx t]
  try omega

/-- The run: what the four results end holding. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7_3) = PRED m c
      ∧ r.2.mem ((c.tc : Thread nD τ).loc main_v7_0) = MU m c
      ∧ r.2.mem ((c.tc : Thread nD τ).loc main_v7_1) = LV m c
      ∧ r.2.mem ((c.tc : Thread nD τ).loc main_v7_2) = MU m c) :=
  θ_run_mono (run_main m ρ) fun _ h c =>
    ⟨((h c).1 24).trans (final24 m c), ((h c).1 21).trans (final21 m c), ((h c).1 22).trans (final22 m c),
      ((h c).1 23).trans (final23 m c)⟩
-- ==== Proof.Reference.lean ====
/- What the reference computes, at an index: each value is the one of Proof/Spec.lean for its graph. -/
module

public import proofs.«01_k».proof.Proof.Args
public import proofs.«01_k».proof.Proof.Gen.ReferenceIdeal.Run
public import Idealize.ShloMosaic.Lib.Pointwise
public import Idealize.ShloMosaic.Lib.Routing.OpsSet
public import Idealize.ShloMosaic.Lib.Routing.OpsPair

@[expose] public section

set_option maxRecDepth 16384

noncomputable section

namespace Cert.ReferenceIdeal.Reference

open Cert.ReferenceIdeal Cert.ReferenceIdeal.Gen Cert.ReferenceIdeal.Value Idealize.ShloMosaic Idealize.ShloMosaic.Routing Cert.Graph

variable (V : Valuation τ sig (Elt Ideal))

/-- Graph `b` of the launched arguments. -/
def graph (b : Fin 256) : Inputs :=
  ofArgs (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) b

/-- The drug nodes. -/
theorem drugs_at (b : Fin 256) (d : Fin 64) (f : Fin 128) : res_main_v10 V (ix3 b d f) = (graph V b).drug d f := by
  pointwise [res_main_v10, graph, ofArgs, Inputs.drug, layer]

/-- The cell nodes. -/
theorem cells_at (b : Fin 256) (c : Fin 8) (f : Fin 128) : res_main_v11 V (ix3 b c f) = (graph V b).cell c f := by
  pointwise [res_main_v11, graph, ofArgs, Inputs.cell, layer]

/-- The scores. -/
theorem scores_at (b : Fin 256) (d : Fin 64) (c : Fin 8) :
    res_main_v19 V (ix3 b d c) = Ideal.logistic ((graph V b).score c d) := by
  pointwise [res_main_v19, drugs_at, cells_at, Inputs.score]
  unfold Ideal.logistic
  refine congrArg (fun s => Ideal.div 1 (1 + Ideal.exp (-s))) (Finset.sum_congr rfl fun e _ => ?_)
  exact mul_comm _ _

/-- The links. -/
theorem links_at (b : Fin 256) (d : Fin 64) (c : Fin 8) : res_main_v22 V (ix3 b d c) = (graph V b).w c d := by
  pointwise [res_main_v22, scores_at, Inputs.w, link]
  pointwise [id]

/-- Where an update of the links above the diagonal lands. -/
theorem lands_above (idx : IVec S2 32) (h0 : idx (ix1 0) = 0#32) (h1 : idx (ix1 1) = 64#32)
    (b b' : Fin 256) (d : Fin 64) (c : Fin 8) (i j : Fin 72) :
    scatter_S256x72x72_S2_S256x64x8_012_n_12_0.resultIdx? (ix3 b d c) idx = some (ix3 b' i j)
      ↔ b.val = b'.val ∧ d.val = i.val ∧ 64 + c.val = j.val := by
  have s0 : scatter_S256x72x72_S2_S256x64x8_012_n_12_0.start (ix3 b d c) idx 0 = 0 := rfl
  have s1 : scatter_S256x72x72_S2_S256x64x8_012_n_12_0.start (ix3 b d c) idx 1 = 0 := by
    refine Eq.trans (b := (idx (ix1 0)).toInt) ?_ (by rw [h0]; rfl)
    exact congrArg (fun k => (idx k).toInt) (funext fun a => Fin.ext (by match a with | ⟨0, _⟩ => rfl))
  have s2 : scatter_S256x72x72_S2_S256x64x8_012_n_12_0.start (ix3 b d c) idx 2 = 64 := by
    refine Eq.trans (b := (idx (ix1 1)).toInt) ?_ (by rw [h1]; rfl)
    exact congrArg (fun k => (idx k).toInt) (funext fun a => Fin.ext (by match a with | ⟨0, _⟩ => rfl))
  have w0 : scatter_S256x72x72_S2_S256x64x8_012_n_12_0.window (ix3 b d c) 0 = b.val := rfl
  have w1 : scatter_S256x72x72_S2_S256x64x8_012_n_12_0.window (ix3 b d c) 1 = d.val := rfl
  have w2 : scatter_S256x72x72_S2_S256x64x8_012_n_12_0.window (ix3 b d c) 2 = c.val := rfl
  rw [resultIdx?_eq_some]
  constructor
  · intro h
    have e0 := h 0
    have e1 := h 1
    have e2 := h 2
    rw [s0, w0] at e0
    rw [s1, w1] at e1
    rw [s2, w2] at e2
    change _ = ((b'.val : ℕ) : Int) at e0
    change _ = ((i.val : ℕ) : Int) at e1
    change _ = ((j.val : ℕ) : Int) at e2
    omega
  · rintro ⟨e0, e1, e2⟩ a
    match a with
    | ⟨0, _⟩ =>
      refine (congrArg₂ (fun (p : Int) (q : ℕ) => p + (q : Int)) s0 w0).trans ?_
      change _ = ((b'.val : ℕ) : Int)
      omega
    | ⟨1, _⟩ =>
      refine (congrArg₂ (fun (p : Int) (q : ℕ) => p + (q : Int)) s1 w1).trans ?_
      change _ = ((i.val : ℕ) : Int)
      omega
    | ⟨2, _⟩ =>
      refine (congrArg₂ (fun (p : Int) (q : ℕ) => p + (q : Int)) s2 w2).trans ?_
      change _ = ((j.val : ℕ) : Int)
      omega

/-- Where an update of the links below the diagonal lands. -/
theorem lands_below (idx : IVec S2 32) (h0 : idx (ix1 0) = 64#32) (h1 : idx (ix1 1) = 0#32)
    (b b' : Fin 256) (d : Fin 64) (c : Fin 8) (i j : Fin 72) :
    scatter_S256x72x72_S2_S256x8x64_012_n_12_0.resultIdx? (ix3 b c d) idx = some (ix3 b' i j)
      ↔ b.val = b'.val ∧ 64 + c.val = i.val ∧ d.val = j.val := by
  have s0 : scatter_S256x72x72_S2_S256x8x64_012_n_12_0.start (ix3 b c d) idx 0 = 0 := rfl
  have s1 : scatter_S256x72x72_S2_S256x8x64_012_n_12_0.start (ix3 b c d) idx 1 = 64 := by
    refine Eq.trans (b := (idx (ix1 0)).toInt) ?_ (by rw [h0]; rfl)
    exact congrArg (fun k => (idx k).toInt) (funext fun a => Fin.ext (by match a with | ⟨0, _⟩ => rfl))
  have s2 : scatter_S256x72x72_S2_S256x8x64_012_n_12_0.start (ix3 b c d) idx 2 = 0 := by
    refine Eq.trans (b := (idx (ix1 1)).toInt) ?_ (by rw [h1]; rfl)
    exact congrArg (fun k => (idx k).toInt) (funext fun a => Fin.ext (by match a with | ⟨0, _⟩ => rfl))
  have w0 : scatter_S256x72x72_S2_S256x8x64_012_n_12_0.window (ix3 b c d) 0 = b.val := rfl
  have w1 : scatter_S256x72x72_S2_S256x8x64_012_n_12_0.window (ix3 b c d) 1 = c.val := rfl
  have w2 : scatter_S256x72x72_S2_S256x8x64_012_n_12_0.window (ix3 b c d) 2 = d.val := rfl
  rw [resultIdx?_eq_some]
  constructor
  · intro h
    have e0 := h 0
    have e1 := h 1
    have e2 := h 2
    rw [s0, w0] at e0
    rw [s1, w1] at e1
    rw [s2, w2] at e2
    change _ = ((b'.val : ℕ) : Int) at e0
    change _ = ((i.val : ℕ) : Int) at e1
    change _ = ((j.val : ℕ) : Int) at e2
    omega
  · rintro ⟨e0, e1, e2⟩ a
    match a with
    | ⟨0, _⟩ =>
      refine (congrArg₂ (fun (p : Int) (q : ℕ) => p + (q : Int)) s0 w0).trans ?_
      change _ = ((b'.val : ℕ) : Int)
      omega
    | ⟨1, _⟩ =>
      refine (congrArg₂ (fun (p : Int) (q : ℕ) => p + (q : Int)) s1 w1).trans ?_
      change _ = ((i.val : ℕ) : Int)
      omega
    | ⟨2, _⟩ =>
      refine (congrArg₂ (fun (p : Int) (q : ℕ) => p + (q : Int)) s2 w2).trans ?_
      change _ = ((j.val : ℕ) : Int)
      omega

/-- The links above the diagonal, 0 elsewhere. -/
theorem above_at (b : Fin 256) (i j : Fin 72) :
    Host.scatter scatter_S256x72x72_S2_S256x64x8_012_n_12_0 (fun _ b => b) (broadcastInDim S256x72x72 ![] bcast_S_S256x72x72 (constant S_ .f32 0x00000000#32)) (concatenate S2 0 [⟨S1, (broadcastInDim S1 ![] bcast_S_S1 (constantI S_ 32 0#32))⟩, ⟨S1, (broadcastInDim S1 ![] bcast_S_S1 (constantI S_ 32 64#32))⟩] concatenates_S1_S1_S2_d0) (res_main_v22 V) (ix3 b i j)
      = if h : i.val < 64 ∧ 64 ≤ j.val then (graph V b).w ⟨j.val - 64, by omega⟩ ⟨i.val, h.1⟩ else 0 := by
  have L := fun b' d c => lands_above (concatenate S2 0 [⟨S1, (broadcastInDim S1 ![] bcast_S_S1 (constantI S_ 32 0#32))⟩, ⟨S1, (broadcastInDim S1 ![] bcast_S_S1 (constantI S_ 32 64#32))⟩] concatenates_S1_S1_S2_d0)
    (by pointwise) (by pointwise) b' b d c i j
  by_cases h : i.val < 64 ∧ 64 ≤ j.val
  · rw [dif_pos h]
    refine scatter_set_hit _ _ _ _ _ _ (fun k hk => ?_) (ix3 b ⟨i.val, h.1⟩ ⟨j.val - 64, by omega⟩)
      ((L b ⟨i.val, h.1⟩ ⟨j.val - 64, by omega⟩).2 ⟨rfl, rfl, by show 64 + (j.val - 64) = j.val; omega⟩)
    obtain ⟨b', d, c, rfl⟩ : ∃ (b' : Fin 256) (d : Fin 64) (c : Fin 8), k = ix3 b' d c := ⟨k 0, k 1, k 2, eq_ix3 k⟩
    obtain ⟨e0, e1, e2⟩ := (L b' d c).1 hk
    obtain rfl : b' = b := Fin.ext e0
    obtain rfl : d = ⟨i.val, h.1⟩ := Fin.ext e1
    rw [show c = ⟨j.val - 64, by omega⟩ from Fin.ext (by show c.val = j.val - 64; omega)]
    exact links_at V b' _ _
  · rw [dif_neg h, scatter_set_miss _ _ _ _ _ fun k hk => ?_]
    · pointwise
    obtain ⟨b', d, c, rfl⟩ : ∃ (b' : Fin 256) (d : Fin 64) (c : Fin 8), k = ix3 b' d c := ⟨k 0, k 1, k 2, eq_ix3 k⟩
    obtain ⟨e0, e1, e2⟩ := (L b' d c).1 hk
    omega

/-- The unit matrix, from comparing the two index arrays. -/
theorem eye (i j : Fin 72) :
    FloatOps.uitofp (F := Ideal) FTy.f32
      (IntOp.cmpi CmpIPredicate.eq (IntOp.addi (BitVec.ofNat 32 i.val) 0#32) (BitVec.ofNat 32 j.val))
      = if i = j then 1 else 0 := by
  have h : IntOp.cmpi CmpIPredicate.eq (IntOp.addi (BitVec.ofNat 32 i.val) 0#32) (BitVec.ofNat 32 j.val)
      = if i = j then 1#1 else 0#1 := by
    revert i j
    decide +kernel
  rw [h]
  by_cases e : i = j
  · rw [if_pos e, if_pos e]
    show (((1#1).toNat : ℝ) : EReal) = 1
    simp
  · rw [if_neg e, if_neg e]
    show (((0#1).toNat : ℝ) : EReal) = 0
    simp

/-- The adjacency matrix. -/
theorem adj_at (b : Fin 256) (i j : Fin 72) : res_main_v41 V (ix3 b i j) = adj (graph V b).w i j := by
  unfold res_main_v41 adj
  have L := fun b' d c => lands_below (concatenate S2 0 [⟨S1, (broadcastInDim S1 ![] bcast_S_S1 (constantI S_ 32 64#32))⟩, ⟨S1, (broadcastInDim S1 ![] bcast_S_S1 (constantI S_ 32 0#32))⟩] concatenates_S1_S1_S2_d0)
    (by pointwise) (by pointwise) b' b d c i j
  refine congrArg₂ (fun p q : EReal => p + q) ?_ ?_
  · by_cases h : j.val < 64 ∧ 64 ≤ i.val
    · rw [dif_neg (by omega), dif_pos h.1]
      refine scatter_set_hit _ _ _ _ _ _ (fun k hk => ?_) (ix3 b ⟨i.val - 64, by omega⟩ ⟨j.val, h.1⟩)
        ((L b ⟨j.val, h.1⟩ ⟨i.val - 64, by omega⟩).2 ⟨rfl, by show 64 + (i.val - 64) = i.val; omega, rfl⟩)
      obtain ⟨b', c, d, rfl⟩ : ∃ (b' : Fin 256) (c : Fin 8) (d : Fin 64), k = ix3 b' c d := ⟨k 0, k 1, k 2, eq_ix3 k⟩
      obtain ⟨e0, e1, e2⟩ := (L b' d c).1 hk
      obtain rfl : b' = b := Fin.ext e0
      obtain rfl : d = ⟨j.val, h.1⟩ := Fin.ext e2
      rw [show c = ⟨i.val - 64, by omega⟩ from Fin.ext (by show c.val = i.val - 64; omega)]
      pointwise
      exact links_at V b' _ _
    · rw [scatter_set_miss _ _ _ _ _ fun k hk => ?_, above_at]
      · by_cases hi : i.val < 64
        · rw [dif_pos hi]
          by_cases hj : j.val < 64
          · rw [dif_pos hj, dif_neg (by omega)]
          · rw [dif_neg hj, dif_pos ⟨hi, by omega⟩]
        · rw [dif_neg hi, dif_neg (by omega), dif_neg (by omega)]
      obtain ⟨b', c, d, rfl⟩ : ∃ (b' : Fin 256) (c : Fin 8) (d : Fin 64), k = ix3 b' c d := ⟨k 0, k 1, k 2, eq_ix3 k⟩
      obtain ⟨e0, e1, e2⟩ := (L b' d c).1 hk
      omega
  · pointwise
    exact eye i j

/-- The inverse root degrees. -/
theorem dinv_at (b : Fin 256) (i : Fin 72) : res_main_v45 V (ix2 b i) = dinvR (graph V b).w i := by
  pointwise [res_main_v45, adj_at, dinvR]

/-- The normalized adjacency matrix. -/
theorem norm_at (b : Fin 256) (i j : Fin 72) :
    res_main_v51 V (ix3 b i j) = dinvR (graph V b).w i * adj (graph V b).w i j * dinvR (graph V b).w j := by
  pointwise [res_main_v51, adj_at, dinv_at]

/-- The hidden layer. -/
theorem hidden_at (b : Fin 256) (i : Fin 72) (f : Fin 256) :
    res_main_v58 V (ix3 b i f) = (graph V b).hidden (propR (graph V b).w) i f := by
  pointwise [res_main_v58, norm_at, drugs_at, cells_at, Inputs.hidden, layer, propR, nodes]
  rfl

/-- The latent means. -/
theorem mu_at (b : Fin 256) (i : Fin 72) (f : Fin 128) :
    res_main_v63 V (ix3 b i f) = (graph V b).muOf (propR (graph V b).w) i f := by
  pointwise [res_main_v63, norm_at, hidden_at, Inputs.muOf, Inputs.second, propR]
  rfl

/-- The latent log variances. -/
def logvar {F : FTy → Type} [FloatOps F] (V : Valuation τ sig (Elt F)) :
    (Proc.devRef .tc main_v68 : DevRef τ sig).ty.Contents (Elt F) :=
  addf (Host.dotGeneral dot_S256x72x256_S256x128_S256x72x128_2_0_01_1_n_n none (Host.dotGeneral dot_S256x72x72_S256x72x256_S256x72x256_2_1_1_2_0_0 none (res_main_v51 V) (res_main_v58 V)) (V (Proc.devRef .tc main_arg13))) (broadcastInDim S256x72x128 ![0, 1, 2] bcast_S1x1x128_S256x72x128_0_1_2 (broadcastInDim S1x1x128 ![2] bcast_S128_S1x1x128_2 (V (Proc.devRef .tc main_arg14))))

theorem logvar_at (b : Fin 256) (i : Fin 72) (f : Fin 128) :
    logvar V (ix3 b i f) = (graph V b).lvOf (propR (graph V b).w) i f := by
  pointwise [logvar, norm_at, hidden_at, Inputs.lvOf, Inputs.second, propR]
  rfl

end Cert.ReferenceIdeal.Reference

end
-- ==== Proof.Attention.lean ====
/- The readout of the reference, at an index: the attention, its mean and the prediction. -/
module

public import proofs.«01_k».proof.Proof.Reference
public import proofs.«01_k».proof.Proof.Gen.ReferenceIdeal.Run
public import Idealize.ShloMosaic.Lib.Pointwise
public import Idealize.ShloMosaic.Lib.Routing.OpsSet
public import Idealize.ShloMosaic.Lib.Routing.OpsPair

@[expose] public section

set_option maxRecDepth 16384

noncomputable section

namespace Cert.ReferenceIdeal.Reference

open Cert.ReferenceIdeal Cert.ReferenceIdeal.Gen Cert.ReferenceIdeal.Value Idealize.ShloMosaic Idealize.ShloMosaic.Routing Cert.Graph

variable (V : Valuation τ sig (Elt Ideal))

/-- The nodes of graph `b` that the attention reads. -/
def z (b : Fin 256) : Fin 72 → Fin 128 → EReal := (graph V b).muOf (propR (graph V b).w)

theorem z_at (b : Fin 256) (i : Fin 72) (f : Fin 128) : res_main_v63 V (ix3 b i f) = z V b i f := mu_at V b i f

/-- The divisor of the scores, and that of the mean. -/
def root : EReal := Ideal.sqrt (Ideal.ofBits .f32 0x42000000#32)
def count : EReal := Ideal.ofBits .f32 0x42900000#32

/-- The scores of a head. -/
theorem heads_at (b : Fin 256) (h : Fin 4) (q k : Fin 72) :
    res_main_v82 V (ix4 b h q k) = scoreR (z V b) (graph V b).Wq (graph V b).Wk root h q k := by
  pointwise [res_main_v82, z_at, scoreR, proj, col, root]
  rfl

theorem ninf : Ideal.ofBits FTy.f32 4286578688#32 = ⊥ := by
  simp [Ideal.ofBits, Ideal.ieee]

/-- The greatest entry of each row. -/
theorem greatest (X : FVec Ideal S256x4x72x72 .f32) (b : Fin 256) (h : Fin 4) (q : Fin 72) :
    Host.reduce FloatOps.maximumf X (constant S_ .f32 0xFF800000#32) reducesTo_S256x4x72x72_S256x4x72_d3 h_S_ (ix3 b h q)
      = Finset.univ.fold max (Ideal.ofBits FTy.f32 4286578688#32) fun k => X (ix4 b h q k) := by
  refine (Host.reduce_eq_fold _ _ _ _ _ _).trans ?_
  exact Shape.ReducesTo.fold_fiber_r4_a3 reducesTo_S256x4x72x72_S256x4x72_d3 (ix3 b h q) max _ X

/-- The exponentials of scores `X` whose rows have the greatest entries `R`. -/
theorem shifted (X : FVec Ideal S256x4x72x72 .f32) (R : FVec Ideal S256x4x72 .f32) (b : Fin 256) (h : Fin 4)
    (q k : Fin 72) :
    Host.exp (subf X (broadcastInDim S256x4x72x72 ![0, 1, 2, 3] bcast_S256x4x72x1_S256x4x72x72_0_1_2_3 (broadcastInDim S256x4x72x1 ![0, 1, 2] bcast_S256x4x72_S256x4x72x1_0_1_2 (maximumf (broadcastInDim S256x4x72 ![] bcast_S_S256x4x72 (constant S_ .f32 0xFF800000#32)) R)))) (ix4 b h q k)
      = Ideal.exp (X (ix4 b h q k) - max (Ideal.ofBits FTy.f32 4286578688#32) (R (ix3 b h q))) := by
  pointwise

/-- The exponentials of a row. -/
theorem expo_at (b : Fin 256) (h : Fin 4) (q k : Fin 72) :
    res_main_v89 V (ix4 b h q k) = expo (scoreR (z V b) (graph V b).Wq (graph V b).Wk root h q) k := by
  refine (shifted (res_main_v82 V) _ b h q k).trans ?_
  rw [greatest, ninf, heads_at]
  unfold expo rowMax
  rw [max_eq_right bot_le]
  simp only [heads_at]

/-- The predictions. -/
def pred {F : FTy → Type} [FloatOps F] (V : Valuation τ sig (Elt F)) :
    (Proc.devRef .tc main_v115 : DevRef τ sig).ty.Contents (Elt F) :=
  Host.divf (broadcastInDim S256x1 ![] bcast_S_S256x1 (constant S_ .f32 0x3F800000#32)) (addf (broadcastInDim S256x1 ![] bcast_S_S256x1 (constant S_ .f32 0x3F800000#32)) (Host.exp (Host.negf (addf (Host.dotGeneral dot_S256x256_S256x1_S256x1_1_0_0_1_n_n none (maximumf (addf (Host.dotGeneral dot_S256x128_S128x256_S256x256_1_0_0_1_n_n none (Host.divf (Host.reduceAdd (Host.dotGeneral dot_S256x72x128_S128x128_S256x72x128_2_0_01_1_n_n none (shapeCast _ (transpose S256x72x4x32 [0, 2, 1, 3] (Host.dotGeneral dot_S256x4x72x72_S256x4x72x32_S256x4x72x32_3_2_2_3_01_01 none (Host.divf (res_main_v89 V) (broadcastInDim S256x4x72x72 ![0, 1, 2, 3] bcast_S256x4x72x1_S256x4x72x72_0_1_2_3 (broadcastInDim S256x4x72x1 ![0, 1, 2] bcast_S256x4x72_S256x4x72x1_0_1_2 (Host.reduceAdd (res_main_v89 V) (constant S_ .f32 0x00000000#32) reducesTo_S256x4x72x72_S256x4x72_d3 h_S_)))) (transpose S256x4x72x32 [0, 2, 1, 3] (shapeCast _ (Host.dotGeneral dot_S256x72x128_S128x128_S256x72x128_2_0_01_1_n_n none (res_main_v63 V) (V (Proc.devRef .tc main_arg17))) shapeCasts_S256x72x128_S256x72x4x32) transposes_S256x72x4x32_S256x4x72x32_0_2_1_3)) transposes_S256x4x72x32_S256x72x4x32_0_2_1_3) shapeCasts_S256x72x4x32_S256x72x128) (V (Proc.devRef .tc main_arg18))) (constant S_ .f32 0x00000000#32) reducesTo_S256x72x128_S256x128_d1 h_S_) (broadcastInDim S256x128 ![] bcast_S_S256x128 (constant S_ .f32 0x42900000#32))) (V (Proc.devRef .tc main_arg19))) (broadcastInDim S256x256 ![0, 1] bcast_S1x256_S256x256_0_1 (broadcastInDim S1x256 ![1] bcast_S256_S1x256_1 (V (Proc.devRef .tc main_arg20))))) (broadcastInDim S256x256 ![] bcast_S_S256x256 (constant S_ .f32 0x00000000#32))) (V (Proc.devRef .tc main_arg21))) (broadcastInDim S256x1 ![0, 1] bcast_S1x1_S256x1_0_1 (broadcastInDim S1x1 ![1] bcast_S1_S1x1_1 (V (Proc.devRef .tc main_arg22))))))))

theorem pred_at (b : Fin 256) :
    pred V (ix2 b 0) = (graph V b).predict (readoutR (z V b) (graph V b).Wq (graph V b).Wk (graph V b).Wv
      (graph V b).Wo root count) := by
  pointwise [pred, expo_at, z_at, Inputs.predict, layer, readoutR, attR, proj, count]
  rfl

end Cert.ReferenceIdeal.Reference

end
-- ==== Proof.Messages.lean ====
/- One round of messages: the product by the normalized adjacency matrix is what the kernel computes, for any node
   values. The links are reals between 0 and 1, so every degree is a real at least 1, and a product by a real that is not
   negative distributes over sums of extended reals. -/
module

public import proofs.«01_k».proof.Proof.Spec

@[expose] public section

noncomputable section

namespace Cert.Graph

open Idealize.ShloMosaic

/-- A link is a real that is not negative. -/
theorem link_real (s : EReal) : ∃ r : ℝ, 0 ≤ r ∧ link s = (r : EReal) := by
  have h : ∃ r : ℝ, 0 ≤ r ∧ Ideal.logistic s = (r : EReal) := by
    induction s with
    | bot => exact ⟨0, le_rfl, by simp [Ideal.logistic_bot]⟩
    | top => exact ⟨1, zero_le_one, by simp [Ideal.logistic_top]⟩
    | coe x => exact ⟨_, inv_nonneg.mpr (by positivity), Ideal.logistic_coe x⟩
  unfold link
  split_ifs
  · exact h
  · exact ⟨0, le_rfl, by simp⟩

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A product by a real that is not negative distributes over a sum. -/
theorem coe_mul_add (a : ℝ) (ha : 0 ≤ a) (x y : EReal) : (a : EReal) * (x + y) = a * x + a * y :=
  EReal.left_distrib_of_nonneg_of_ne_top (EReal.coe_nonneg.mpr ha) (EReal.coe_ne_top a) x y

theorem coe_mul_sum {ι : Type} (t : Finset ι) (a : ℝ) (ha : 0 ≤ a) (f : ι → EReal) :
    (a : EReal) * ∑ i ∈ t, f i = ∑ i ∈ t, (a : EReal) * f i := by
  classical
  induction t using Finset.induction_on with
  | empty => simp
  | insert b t hb ih => rw [Finset.sum_insert hb, Finset.sum_insert hb, coe_mul_add a ha, ih]

/-- A sum over the nodes: the drug nodes, then the cell nodes. -/
theorem sum_nodes (f : Fin 72 → EReal) :
    ∑ j, f j = ∑ d : Fin 64, f ⟨d.val, by omega⟩ + ∑ c : Fin 8, f ⟨64 + c.val, by omega⟩ :=
  Fin.sum_univ_add (a := 64) (b := 8) f

section

variable (w : Fin 8 → Fin 64 → EReal)

theorem adj_dd (d e : Fin 64) : adj w ⟨d.val, by omega⟩ ⟨e.val, by omega⟩ = if d = e then 1 else 0 := by
  simp [adj, Fin.ext_iff]

theorem adj_dc (d : Fin 64) (c : Fin 8) : adj w ⟨d.val, by omega⟩ ⟨64 + c.val, by omega⟩ = w c d := by
  have h : ¬ d.val = 64 + c.val := by omega
  simp [adj, Fin.ext_iff, h]

theorem adj_cd (c : Fin 8) (d : Fin 64) : adj w ⟨64 + c.val, by omega⟩ ⟨d.val, by omega⟩ = w c d := by
  have h : ¬ 64 + c.val = d.val := by omega
  simp [adj, Fin.ext_iff, h]

theorem adj_cc (c b : Fin 8) : adj w ⟨64 + c.val, by omega⟩ ⟨64 + b.val, by omega⟩ = if c = b then 1 else 0 := by
  simp [adj, Fin.ext_iff]

/-- The degree of a drug node. -/
theorem deg_d (d : Fin 64) : ∑ j, adj w ⟨d.val, by omega⟩ j = 1 + ∑ c, w c d := by
  rw [sum_nodes]
  simp only [adj_dd, adj_dc, Finset.sum_ite_eq, Finset.mem_univ, ↓reduceIte]

/-- The degree of a cell node. -/
theorem deg_c (c : Fin 8) : ∑ j, adj w ⟨64 + c.val, by omega⟩ j = 1 + ∑ d, w c d := by
  rw [sum_nodes]
  simp only [adj_cd, adj_cc, Finset.sum_ite_eq, Finset.mem_univ, ↓reduceIte]
  exact add_comm _ _

/-- One over the root of a degree is its inverse root. -/
theorem inv_root {n : ℕ} (f : Fin n → ℝ) (hf : ∀ i, 0 ≤ f i) :
    ∃ r : ℝ, 0 ≤ r ∧ Ideal.rsqrt (1 + ∑ i, (f i : EReal)) = (r : EReal)
      ∧ Ideal.div 1 (Ideal.sqrt (1 + ∑ i, (f i : EReal))) = (r : EReal) := by
  have hs : 0 ≤ ∑ i, f i := Finset.sum_nonneg fun i _ => hf i
  have hp : 0 < 1 + ∑ i, f i := by linarith
  have e : (1 + ∑ i, (f i : EReal)) = ((1 + ∑ i, f i : ℝ) : EReal) := by
    rw [EReal.coe_add, coe_sum, EReal.coe_one]
  refine ⟨(Real.sqrt (1 + ∑ i, f i))⁻¹, by positivity, ?_, ?_⟩
  · rw [e, Ideal.rsqrt_coe, if_neg (not_lt.mpr hp.le), if_neg hp.ne']
  · rw [e, Ideal.sqrt_coe, if_neg (not_lt.mpr hp.le), Ideal.div_coe (Real.sqrt_pos.mpr hp).ne', one_mul, one_div]

/-- A round of messages by the normalized adjacency matrix is the kernel's. -/
theorem propR_eq_propK (r : Fin 8 → Fin 64 → ℝ) (hr : ∀ c d, 0 ≤ r c d) (hw : ∀ c d, w c d = (r c d : EReal))
    (X : Fin 72 → EReal) :
    propR w X = propK w (fun d => Ideal.rsqrt (1 + ∑ c, w c d)) (fun c => Ideal.rsqrt (1 + ∑ d, w c d)) X := by
  have hd : ∀ d, ∃ a : ℝ, 0 ≤ a ∧ Ideal.rsqrt (1 + ∑ c, w c d) = (a : EReal)
      ∧ dinvR w ⟨d.val, by omega⟩ = (a : EReal) := fun d => by
    have h := inv_root (fun c => r c d) fun c => hr c d
    simp only [← hw, ← deg_d w] at h
    rw [← deg_d]
    exact h
  have hc : ∀ c, ∃ a : ℝ, 0 ≤ a ∧ Ideal.rsqrt (1 + ∑ d, w c d) = (a : EReal)
      ∧ dinvR w ⟨64 + c.val, by omega⟩ = (a : EReal) := fun c => by
    have h := inv_root (fun d => r c d) fun d => hr c d
    simp only [← hw, ← deg_c w] at h
    rw [← deg_c]
    exact h
  choose a ha ea ea' using hd
  choose b hb eb eb' using hc
  have kd : ∀ d : Fin 64, propR w X ⟨d.val, by omega⟩ = propK w (fun d => Ideal.rsqrt (1 + ∑ c, w c d))
      (fun c => Ideal.rsqrt (1 + ∑ d, w c d)) X ⟨d.val, by omega⟩ := fun d => by
    unfold propR propK
    rw [sum_nodes, dif_pos d.isLt]
    simp only [adj_dd, adj_dc, ea, eb, ea', eb', Fin.eta]
    rw [coe_mul_add _ (ha d), coe_mul_sum _ _ (ha d)]
    refine congrArg₂ (· + ·) ?_ (Finset.sum_congr rfl fun c _ => ?_)
    · rw [Finset.sum_eq_single d (fun e _ he => by simp [Ne.symm he]) (fun h => absurd (Finset.mem_univ d) h)]
      simp only [↓reduceIte, mul_one, mul_assoc]
    · simp only [mul_assoc]
  have kc : ∀ c : Fin 8, propR w X ⟨64 + c.val, by omega⟩ = propK w (fun d => Ideal.rsqrt (1 + ∑ c, w c d))
      (fun c => Ideal.rsqrt (1 + ∑ d, w c d)) X ⟨64 + c.val, by omega⟩ := fun c => by
    have hk : (⟨64 + c.val - 64, by omega⟩ : Fin 8) = c := Fin.ext (by simp)
    unfold propR propK
    rw [sum_nodes, dif_neg (by simp)]
    simp only [hk, adj_cd, adj_cc, ea, eb, ea', eb']
    rw [coe_mul_add _ (hb c), coe_mul_sum _ _ (hb c), add_comm]
    refine congrArg₂ (· + ·) ?_ (Finset.sum_congr rfl fun d _ => ?_)
    · rw [Finset.sum_eq_single c (fun e _ he => by simp [Ne.symm he]) (fun h => absurd (Finset.mem_univ c) h)]
      simp only [↓reduceIte, mul_one, mul_assoc]
    · simp only [mul_assoc]
  funext i
  by_cases hi : i.val < 64
  · exact kd ⟨i.val, hi⟩
  · have h := kc ⟨i.val - 64, by omega⟩
    have e : (⟨64 + (i.val - 64), by omega⟩ : Fin 72) = i := Fin.ext (by simp only; omega)
    simp only [e] at h
    exact h

end

/-- A graph's round of messages. -/
theorem Inputs.prop_eq (I : Inputs) : propR I.w = propK I.w I.dd I.dc := by
  choose r hr hw using fun c d => link_real (I.score c d)
  funext X
  exact propR_eq_propK I.w r hr hw X

end Cert.Graph

end
-- ==== Proof.Readout.lean ====
/- The readout: where the latent mean and the four attention weights are reals, the mean of the attention over its queries
   may be taken before the values and the output projection are applied. Then, where a graph's own reals make the latent
   mean real. -/
module

public import proofs.«01_k».proof.Proof.Messages

@[expose] public section

noncomputable section

namespace Cert.Graph

open Idealize.ShloMosaic

/-- The exponentials of a row of reals are positive reals. -/
theorem expo_real (s : Fin 72 → ℝ) : ∃ e : Fin 72 → ℝ, (∀ i, 0 < e i) ∧ ∀ i, expo (fun i => (s i : EReal)) i = (e i : EReal) := by
  classical
  have h : ∀ t : Finset (Fin 72), t.fold max ⊥ (fun i => (s i : EReal)) = ⊥
      ∨ ∃ M : ℝ, t.fold max ⊥ (fun i => (s i : EReal)) = (M : EReal) := fun t => by
    induction t using Finset.induction_on with
    | empty => exact Or.inl rfl
    | insert a t ha ih =>
      right
      rw [Finset.fold_insert ha]
      rcases ih with h | ⟨M, h⟩
      · exact ⟨s a, by rw [h, max_eq_left bot_le]⟩
      · exact ⟨max (s a) M, by rw [h]; exact (EReal.coe_strictMono.monotone.map_max).symm⟩
  have h0 : (s 0 : EReal) ≤ rowMax fun i => (s i : EReal) := by
    unfold rowMax
    rw [Finset.le_fold_max]
    exact Or.inr ⟨0, Finset.mem_univ _, le_rfl⟩
  rcases h Finset.univ with h | ⟨M, h⟩
  · exact absurd (h0.trans_eq h) (by simp)
  · refine ⟨fun i => Real.exp (s i - M), fun i => Real.exp_pos _, fun i => ?_⟩
    unfold expo rowMax
    rw [h, ← EReal.coe_sub, Ideal.exp_coe]

section

variable (z : Fin 72 → Fin 128 → ℝ) (q k v o : Fin 128 → Fin 128 → ℝ)

/-- A projection, in reals. -/
def projr (W : Fin 128 → Fin 128 → ℝ) (i : Fin 72) (j : Fin 128) : ℝ := ∑ l, z i l * W l j

theorem proj_real (W : Fin 128 → Fin 128 → ℝ) (i : Fin 72) (j : Fin 128) :
    proj (fun i f => (z i f : EReal)) (fun a b => (W a b : EReal)) i j = (projr z W i j : EReal) := by
  unfold proj projr
  rw [coe_sum]
  exact Finset.sum_congr rfl fun l _ => (EReal.coe_mul _ _).symm

/-- The scores, in reals. -/
def scorer (t : ℝ) (h : Fin 4) (i l : Fin 72) : ℝ := (∑ j : Fin 32, projr z q i (col h j) * projr z k l (col h j)) * (1 / t)

theorem scoreR_real (t : ℝ) (ht : t ≠ 0) (h : Fin 4) (i l : Fin 72) :
    scoreR (fun i f => (z i f : EReal)) (fun a b => (q a b : EReal)) (fun a b => (k a b : EReal)) (t : EReal) h i l
      = (scorer z q k t h i l : EReal) := by
  unfold scoreR scorer
  rw [Ideal.div_coe ht, EReal.coe_mul, coe_sum]
  simp only [proj_real, EReal.coe_mul]

theorem scoreK_real (t : ℝ) (h : Fin 4) (i l : Fin 72) :
    scoreK (fun i f => (z i f : EReal)) (fun a b => (q a b : EReal)) (fun a b => (k a b : EReal)) ((1 / t : ℝ) : EReal) h i l
      = (scorer z q k t h i l : EReal) := by
  have e : projr z (fun a b => q a b * (1 / t)) = fun i j => projr z q i j * (1 / t) := by
    funext i j
    simp only [projr, Finset.sum_mul, mul_assoc]
  unfold scoreK scorer
  simp only [← EReal.coe_mul]
  simp only [proj_real, e, ← EReal.coe_mul, ← coe_sum]
  refine congrArg _ ?_
  rw [Finset.sum_mul]
  exact Finset.sum_congr rfl fun j _ => by ring

/-- The attention, in reals: a row's exponentials over their sum. -/
theorem att_real (t : ℝ) (ht : t ≠ 0) : ∃ a : Fin 4 → Fin 72 → Fin 72 → ℝ,
    (∀ h i l, attR (fun i f => (z i f : EReal)) (fun a b => (q a b : EReal)) (fun a b => (k a b : EReal)) (t : EReal) h i l
      = (a h i l : EReal))
    ∧ ∀ h l, meanK (fun i f => (z i f : EReal)) (fun a b => (q a b : EReal)) (fun a b => (k a b : EReal))
        ((1 / t : ℝ) : EReal) h l = ((∑ i, (1 / 72) * a h i l : ℝ) : EReal) := by
  choose e he ee using fun h i => expo_real fun l => scorer z q k t h i l
  have hp : ∀ h i, ∑ l, e h i l ≠ 0 := fun h i => (Finset.sum_pos (fun l _ => he h i l) ⟨0, Finset.mem_univ _⟩).ne'
  have hR : ∀ h i, (scoreR (fun i f => (z i f : EReal)) (fun a b => (q a b : EReal)) (fun a b => (k a b : EReal)) (t : EReal)
      h i) = fun l => (scorer z q k t h i l : EReal) := fun h i => funext fun l => scoreR_real z q k t ht h i l
  have hK : ∀ h i, (scoreK (fun i f => (z i f : EReal)) (fun a b => (q a b : EReal)) (fun a b => (k a b : EReal))
      ((1 / t : ℝ) : EReal) h i) = fun l => (scorer z q k t h i l : EReal) := fun h i => funext fun l =>
    scoreK_real z q k t h i l
  refine ⟨fun h i l => e h i l * (1 / ∑ l, e h i l), fun h i l => ?_, fun h l => ?_⟩
  · unfold attR
    rw [hR]
    simp only [ee]
    rw [← coe_sum, Ideal.div_coe (hp h i), EReal.coe_mul]
  · unfold meanK
    simp only [hK, ee]
    rw [coe_sum]
    refine Finset.sum_congr rfl fun i _ => ?_
    rw [← coe_sum, Ideal.div_coe (hp h i), ← EReal.coe_mul, ← EReal.coe_mul]
    exact congrArg Real.toEReal (by ring)

/-- The two readouts of reals are one real. -/
theorem readout_eq (t : ℝ) (ht : t ≠ 0) (f : Fin 128) :
    readoutK (fun i f => (z i f : EReal)) (fun a b => (q a b : EReal)) (fun a b => (k a b : EReal))
        (fun a b => (v a b : EReal)) (fun a b => (o a b : EReal)) ((1 / t : ℝ) : EReal) f
      = readoutR (fun i f => (z i f : EReal)) (fun a b => (q a b : EReal)) (fun a b => (k a b : EReal))
        (fun a b => (v a b : EReal)) (fun a b => (o a b : EReal)) (t : EReal) ((72 : ℝ) : EReal) f := by
  obtain ⟨a, ha, hm⟩ := att_real z q k t ht
  have hK : readoutK (fun i f => (z i f : EReal)) (fun a b => (q a b : EReal)) (fun a b => (k a b : EReal))
        (fun a b => (v a b : EReal)) (fun a b => (o a b : EReal)) ((1 / t : ℝ) : EReal) f
      = ((∑ j : Fin 128, (∑ l, (∑ i, (1 / 72) * a ⟨j.val / 32, by omega⟩ i l) * projr z v l j) * o j f : ℝ) : EReal) := by
    unfold readoutK
    simp only [hm, proj_real, coe_sum, EReal.coe_mul]
  have hR : readoutR (fun i f => (z i f : EReal)) (fun a b => (q a b : EReal)) (fun a b => (k a b : EReal))
        (fun a b => (v a b : EReal)) (fun a b => (o a b : EReal)) (t : EReal) ((72 : ℝ) : EReal) f
      = (((∑ i, ∑ j : Fin 128, (∑ l, a ⟨j.val / 32, by omega⟩ i l * projr z v l j) * o j f) * (1 / 72) : ℝ) : EReal) := by
    unfold readoutR
    rw [Ideal.div_coe (by norm_num)]
    simp only [ha, proj_real, coe_sum, EReal.coe_mul]
  rw [hK, hR]
  refine congrArg Real.toEReal ?_
  rw [Finset.sum_comm, Finset.sum_mul]
  refine Finset.sum_congr rfl fun j _ => ?_
  rw [Finset.sum_mul, Finset.sum_mul]
  simp only [Finset.sum_mul]
  rw [Finset.sum_comm]
  exact Finset.sum_congr rfl fun i _ => Finset.sum_congr rfl fun l _ => by ring

end

end Cert.Graph

end
-- ==== Proof.Finite.lean ====
/- Where the entries that reach the attention are reals, so is the latent mean, and the readout of the kernel is that of the
   reference. -/
module

public import proofs.«01_k».proof.Proof.Readout
public import Idealize.ShloMosaic.Lib.IdealHost

@[expose] public section

noncomputable section

namespace Cert.Graph

open Idealize.ShloMosaic

/-- An extended real that is a real. -/
def IsReal (x : EReal) : Prop := ∃ r : ℝ, x = (r : EReal)

namespace IsReal

variable {x y : EReal}

theorem add (hx : IsReal x) (hy : IsReal y) : IsReal (x + y) := by
  obtain ⟨a, rfl⟩ := hx
  obtain ⟨b, rfl⟩ := hy
  exact ⟨a + b, (EReal.coe_add a b).symm⟩

theorem mul (hx : IsReal x) (hy : IsReal y) : IsReal (x * y) := by
  obtain ⟨a, rfl⟩ := hx
  obtain ⟨b, rfl⟩ := hy
  exact ⟨a * b, (EReal.coe_mul a b).symm⟩

theorem pos (hx : IsReal x) : IsReal (max x 0) := by
  rcases max_choice x 0 with h | h
  · rw [h]
    exact hx
  · rw [h]
    exact ⟨0, rfl⟩

theorem sum {ι : Type} (t : Finset ι) (f : ι → EReal) (hf : ∀ i, IsReal (f i)) : IsReal (∑ i ∈ t, f i) := by
  choose r hr using hf
  exact ⟨∑ i ∈ t, r i, by rw [coe_sum]; exact Finset.sum_congr rfl fun i _ => hr i⟩

theorem linear {n : ℕ} (W b : Fin n → EReal) (hW : ∀ k, IsReal (W k)) (hb : ∀ k, IsReal (b k)) :
    IsReal (∑ k, W k * b k) :=
  sum _ _ fun k => (hW k).mul (hb k)

theorem of_layer {n p : ℕ} (W : Fin n → Fin p → EReal) (b : Fin p → EReal) (v : Fin n → EReal)
    (hW : ∀ k f, IsReal (W k f)) (hb : ∀ f, IsReal (b f)) (hv : ∀ k, IsReal (v k)) (f : Fin p) :
    IsReal (layer W b v f) :=
  ((linear _ _ hv fun k => hW k f).add (hb f)).pos

/-- An extended real whose absolute value is below infinity. -/
theorem of_lt (h : max x (-x) < ⊤) : IsReal x := by
  induction x with
  | bot => simp at h
  | top => simp at h
  | coe r => exact ⟨r, rfl⟩

end IsReal

/-- The entries of a graph that reach its attention are reals. -/
structure Inputs.Finite (I : Inputs) : Prop where
  cs : ∀ c k, IsReal (I.cs c k)
  ds : ∀ d k, IsReal (I.ds d k)
  Wc : ∀ c k f, IsReal (I.Wc c k f)
  bc : ∀ c f, IsReal (I.bc c f)
  Wg : ∀ k f, IsReal (I.Wg k f)
  bg : ∀ f, IsReal (I.bg f)
  W1 : ∀ k f, IsReal (I.W1 k f)
  b1 : ∀ f, IsReal (I.b1 f)
  Wmu : ∀ k f, IsReal (I.Wmu k f)
  bmu : ∀ f, IsReal (I.bmu f)
  Wq : ∀ k f, IsReal (I.Wq k f)
  Wk : ∀ k f, IsReal (I.Wk k f)
  Wv : ∀ k f, IsReal (I.Wv k f)
  Wo : ∀ k f, IsReal (I.Wo k f)

section

variable (I : Inputs)

theorem w_real (c : Fin 8) (d : Fin 64) : IsReal (I.w c d) := by
  obtain ⟨r, _, h⟩ := link_real (I.score c d)
  exact ⟨r, h⟩

theorem dd_real (d : Fin 64) : IsReal (I.dd d) := by
  choose r hr hw using fun c => link_real (I.score c d)
  obtain ⟨a, _, h, _⟩ := inv_root r hr
  exact ⟨a, by rw [← h, Inputs.dd]; simp only [← hw]; rfl⟩

theorem dc_real (c : Fin 8) : IsReal (I.dc c) := by
  choose r hr hw using fun d => link_real (I.score c d)
  obtain ⟨a, _, h, _⟩ := inv_root r hr
  exact ⟨a, by rw [← h, Inputs.dc]; simp only [← hw]; rfl⟩

/-- A round of messages of reals is real. -/
theorem prop_real (X : Fin 72 → EReal) (hX : ∀ i, IsReal (X i)) (i : Fin 72) : IsReal (propK I.w I.dd I.dc X i) := by
  unfold propK
  split_ifs
  · exact (dd_real I _).mul (((dd_real I _).mul (hX _)).add
      (IsReal.sum _ _ fun c => (w_real I c _).mul ((dc_real I c).mul (hX _))))
  · exact (dc_real I _).mul (((dc_real I _).mul (hX _)).add
      (IsReal.sum _ _ fun d => (w_real I _ d).mul ((dd_real I d).mul (hX _))))

theorem mu_real (h : I.Finite) (i : Fin 72) (f : Fin 128) : IsReal (I.mu i f) := by
  have hn : ∀ j k, IsReal (nodes I.drug I.cell j k) := fun j k => by
    unfold nodes
    split_ifs
    · exact IsReal.of_layer _ _ _ h.Wg h.bg (h.ds _) k
    · exact IsReal.of_layer _ _ _ (h.Wc _) (h.bc _) (h.cs _) k
  have hh : ∀ j p, IsReal (I.hidden (propK I.w I.dd I.dc) j p) := fun j p =>
    IsReal.of_layer _ _ _ h.W1 h.b1 (fun k => prop_real I _ (fun l => hn l k) j) p
  exact (IsReal.linear _ _ (fun p => prop_real I _ (fun j => hh j p) i) fun p => h.Wmu p f).add (h.bmu f)

theorem ofBits_32 : Ideal.ofBits .f32 0x42000000#32 = ((32 : ℝ) : EReal) := by
  simp [Ideal.ofBits, Ideal.ieee, -EReal.coe_mul]; norm_num

theorem ofBits_72 : Ideal.ofBits .f32 0x42900000#32 = ((72 : ℝ) : EReal) := by
  simp [Ideal.ofBits, Ideal.ieee, -EReal.coe_mul]; norm_num

/-- The readout of the kernel, its queries scaled by one over √32, is that of the reference. -/
theorem readout_same (h : I.Finite) :
    readoutK I.mu I.Wq I.Wk I.Wv I.Wo (Ideal.div 1 (Ideal.sqrt (Ideal.ofBits .f32 0x42000000#32)))
      = readoutR I.mu I.Wq I.Wk I.Wv I.Wo (Ideal.sqrt (Ideal.ofBits .f32 0x42000000#32))
          (Ideal.ofBits .f32 0x42900000#32) := by
  have hs : Real.sqrt 32 ≠ 0 := (Real.sqrt_pos.mpr (by norm_num)).ne'
  choose z hz using fun i f => mu_real I h i f
  choose q hq using h.Wq
  choose k hk using h.Wk
  choose v hv using h.Wv
  choose o ho using h.Wo
  rw [ofBits_32, ofBits_72, Ideal.sqrt_coe, if_neg (by norm_num), Ideal.div_coe hs, one_mul]
  rw [show I.mu = fun i f => (z i f : EReal) from funext fun i => funext fun f => hz i f,
    show I.Wq = fun i f => (q i f : EReal) from funext fun i => funext fun f => hq i f,
    show I.Wk = fun i f => (k i f : EReal) from funext fun i => funext fun f => hk i f,
    show I.Wv = fun i f => (v i f : EReal) from funext fun i => funext fun f => hv i f,
    show I.Wo = fun i f => (o i f : EReal) from funext fun i => funext fun f => ho i f]
  exact funext fun f => readout_eq z q k v o _ hs f

end

end Cert.Graph

end
-- ==== Proof.Compare.lean ====
/- The two programs' results compared, array by array. -/
module

public import proofs.«01_k».proof.Defs
public import proofs.«01_k».proof.Proof.Arrays
public import proofs.«01_k».proof.Proof.Attention
public import proofs.«01_k».proof.Proof.Messages
public import proofs.«01_k».proof.Proof.Finite

@[expose] public section

set_option maxRecDepth 16384

noncomputable section

namespace Cert.Compare

open Idealize.ShloMosaic Cert.Graph

/-- What `finite_inputs` and `latent` need of their shapes. -/
theorem facts_finite : Cert.Pre_finite_inputs.Facts where
  bcast_S_S8x256x128 := by decide
  bcast_S_S16384x128 := by decide
  bcast_S_S8x128x128 := by decide
  bcast_S_S8x128 := by decide
  bcast_S_S128x128 := by decide
  bcast_S_S128 := by decide
  bcast_S_S128x256 := by decide
  bcast_S_S256 := by decide
  bcast_S_S256x128 := by decide

theorem facts_latent : Cert.On_latent.Facts where
  bcast_S_S256x72x128 := by decide
  bcast_S_S256x1 := by decide

section

variable (m : (ℓ : Loc Cert.KernelIdeal.nD Cert.KernelIdeal.τ Cert.KernelIdeal.sig) → Buf (Elt Ideal) ℓ)
  (c : Dev Cert.KernelIdeal.nD) (V : Valuation Cert.ReferenceIdeal.τ Cert.ReferenceIdeal.sig (Elt Ideal))
  (hg : ∀ b, Cert.ReferenceIdeal.Reference.graph V b = Cert.KernelIdeal.Arrays.graph m c b)

include hg

theorem mu_same : Cert.ReferenceIdeal.Value.res_main_v63 V = Cert.KernelIdeal.Arrays.MU m c := by
  funext j
  obtain ⟨b, i, f, rfl⟩ : ∃ (b : Fin 256) (i : Fin 72) (f : Fin 128), j = ix3 b i f := ⟨j 0, j 1, j 2, eq_ix3 j⟩
  refine (Cert.ReferenceIdeal.Reference.mu_at V b i f).trans ?_
  rw [Inputs.prop_eq, hg]
  rfl

theorem logvar_same : Cert.ReferenceIdeal.Reference.logvar V = Cert.KernelIdeal.Arrays.LV m c := by
  funext j
  obtain ⟨b, i, f, rfl⟩ : ∃ (b : Fin 256) (i : Fin 72) (f : Fin 128), j = ix3 b i f := ⟨j 0, j 1, j 2, eq_ix3 j⟩
  refine (Cert.ReferenceIdeal.Reference.logvar_at V b i f).trans ?_
  rw [Inputs.prop_eq, hg]
  rfl

theorem pred_same (hf : ∀ b, (Cert.KernelIdeal.Arrays.graph m c b).Finite) :
    Cert.ReferenceIdeal.Reference.pred V = Cert.KernelIdeal.Arrays.PRED m c := by
  funext j
  obtain ⟨b, i, rfl⟩ : ∃ (b : Fin 256) (i : Fin 1), j = ix2 b i := ⟨j 0, j 1, eq_ix2 j⟩
  obtain rfl : i = 0 := Subsingleton.elim _ _
  refine (Cert.ReferenceIdeal.Reference.pred_at V b).trans ?_
  unfold Cert.ReferenceIdeal.Reference.z
  rw [Inputs.prop_eq, hg]
  exact congrArg (Inputs.predict _) (readout_same _ (hf b)).symm

end

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Where the arguments agree, so do the graphs. -/
theorem graph_same
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12) ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13) ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14) ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15) ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16) ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17) ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18) ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19) ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20) ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21) ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) (b : Fin 256) :
    Cert.ReferenceIdeal.Reference.graph (StableHlo.launchContents m' c) b = Cert.KernelIdeal.Arrays.graph m c b := by
  obtain ⟨h0, h1, h2, h3, h4, h5, h6, h7, h8, h9, h10, h11, h12, h13, h14, h15, h16, h17, h18, h19, h20, h21, h22⟩ := h
  show ofArgs (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) b = _
  rw [h0, h1, h4, h5, h6, h7, h8, h9, h10, h11, h12, h13, h14, h15, h16, h17, h18, h19, h20, h21, h22]
  rfl

/-- An array whose entries compare below +∞ in magnitude holds reals. -/
theorem real_of_mask {s : Shape} (x : FVec Ideal s .f32) (dims : Fin 0 → Fin s.rank)
    (hb : (⟨0, ![]⟩ : Shape).BroadcastsInDim s dims)
    (h : cmpf .olt (Host.absf x) (broadcastInDim s dims hb (constant ⟨0, ![]⟩ .f32 0x7F800000#32)) = fun _ => 1#1)
    (j : s.Idx) : IsReal (x j) := by
  have e := congrFun h j
  have t : Ideal.ofBits FTy.f32 0x7F800000#32 = ⊤ := by
    simp [Ideal.ofBits, Ideal.ieee]
  refine IsReal.of_lt ?_
  rw [← t]
  by_contra n
  revert e
  pointwise
  intro e
  rw [decide_eq_false (show ¬ FloatOps.absf (x j) < Ideal.ofBits FTy.f32 0x7F800000#32 from n)] at e
  exact absurd e (by decide)

/-- The precondition gives finite inputs to every graph. -/
theorem finite (h : Cert.Pre_KernelIdeal_finite_inputs (hPre_finite_inputs := facts_finite) m) (b : Fin 256) :
    (Cert.KernelIdeal.Arrays.graph m c b).Finite := by
  obtain ⟨p0, p1, p4, p5, p6, p7, p9, p10, p11, p12, p15, p16, p17, p18⟩ := h c
  have h0 := real_of_mask (m ((c.tc : Thread Cert.KernelIdeal.nD Cert.KernelIdeal.τ).loc Cert.KernelIdeal.main_arg0)) ![] _ p0
  have h1 := real_of_mask (m ((c.tc : Thread Cert.KernelIdeal.nD Cert.KernelIdeal.τ).loc Cert.KernelIdeal.main_arg1)) ![] _ p1
  have h4 := real_of_mask (m ((c.tc : Thread Cert.KernelIdeal.nD Cert.KernelIdeal.τ).loc Cert.KernelIdeal.main_arg4)) ![] _ p4
  have h5 := real_of_mask (m ((c.tc : Thread Cert.KernelIdeal.nD Cert.KernelIdeal.τ).loc Cert.KernelIdeal.main_arg5)) ![] _ p5
  have h6 := real_of_mask (m ((c.tc : Thread Cert.KernelIdeal.nD Cert.KernelIdeal.τ).loc Cert.KernelIdeal.main_arg6)) ![] _ p6
  have h7 := real_of_mask (m ((c.tc : Thread Cert.KernelIdeal.nD Cert.KernelIdeal.τ).loc Cert.KernelIdeal.main_arg7)) ![] _ p7
  have h9 := real_of_mask (m ((c.tc : Thread Cert.KernelIdeal.nD Cert.KernelIdeal.τ).loc Cert.KernelIdeal.main_arg9)) ![] _ p9
  have h10 := real_of_mask (m ((c.tc : Thread Cert.KernelIdeal.nD Cert.KernelIdeal.τ).loc Cert.KernelIdeal.main_arg10)) ![] _ p10
  have h11 := real_of_mask (m ((c.tc : Thread Cert.KernelIdeal.nD Cert.KernelIdeal.τ).loc Cert.KernelIdeal.main_arg11)) ![] _ p11
  have h12 := real_of_mask (m ((c.tc : Thread Cert.KernelIdeal.nD Cert.KernelIdeal.τ).loc Cert.KernelIdeal.main_arg12)) ![] _ p12
  have h15 := real_of_mask (m ((c.tc : Thread Cert.KernelIdeal.nD Cert.KernelIdeal.τ).loc Cert.KernelIdeal.main_arg15)) ![] _ p15
  have h16 := real_of_mask (m ((c.tc : Thread Cert.KernelIdeal.nD Cert.KernelIdeal.τ).loc Cert.KernelIdeal.main_arg16)) ![] _ p16
  have h17 := real_of_mask (m ((c.tc : Thread Cert.KernelIdeal.nD Cert.KernelIdeal.τ).loc Cert.KernelIdeal.main_arg17)) ![] _ p17
  have h18 := real_of_mask (m ((c.tc : Thread Cert.KernelIdeal.nD Cert.KernelIdeal.τ).loc Cert.KernelIdeal.main_arg18)) ![] _ p18
  exact {
    cs := fun _ _ => h0 _
    ds := fun _ _ => h1 _
    Wc := fun _ _ _ => h4 _
    bc := fun _ _ => h5 _
    Wg := fun _ _ => h6 _
    bg := fun _ => h7 _
    W1 := fun _ _ => h9 _
    b1 := fun _ => h10 _
    Wmu := fun _ _ => h11 _
    bmu := fun _ => h12 _
    Wq := fun _ _ => h15 _
    Wk := fun _ _ => h16 _
    Wv := fun _ _ => h17 _
    Wo := fun _ _ => h18 _ }

end Cert.Compare

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Compare
public import Idealize.ShloMosaic.Adequacy
public import Idealize.ShloMosaic.Init

@[expose] public section

noncomputable section

namespace Cert.Proof

open Idealize.ShloMosaic Idealize.SL.Sem Cert.Kernel

/-- The reference terminates, keeps its arguments, and has no semaphore. -/
theorem frame_reference : Cert.quiescent_ReferenceIdeal (hReferenceIdeal := Cert.ReferenceIdeal.Gen.facts) := fun m g _ =>
  θ_run_mono (Cert.ReferenceIdeal.Value.run (F := Ideal) m g) fun r h =>
    ⟨fun c => (h c).2.2.2.2, sem_eq_zero_of_no_sems (by decide) r.2⟩

/-- The same under the precondition, which this does not need. -/
theorem frame_reference_finite : Cert.quiescent_ReferenceIdeal_pre_finite_inputs
    (hReferenceIdeal := Cert.ReferenceIdeal.Gen.facts) (hPre_finite_inputs := Compare.facts_finite) := fun m g _ =>
  frame_reference m g trivial

/-- All four results agree where the inputs are finite. -/
theorem finite : Cert.algebraic_KernelIdeal_ReferenceIdeal_pre_finite_inputs (hKernelIdeal := Cert.KernelIdeal.Gen.facts)
    (hReferenceIdeal := Cert.ReferenceIdeal.Gen.facts) (hPre_finite_inputs := Compare.facts_finite) := by
  intro m g m' g' hpre hagree
  have hg := fun c b => Compare.graph_same m m' c (hagree c) b
  refine ⟨fun c => Cert.KernelIdeal.Arrays.PRED m c, fun c => Cert.KernelIdeal.Arrays.MU m c,
    fun c => Cert.KernelIdeal.Arrays.LV m c, fun c => Cert.KernelIdeal.Arrays.MU m c,
    θ_run_mono (θ_run_and (Cert.KernelIdeal.Arrays.run m g) (Cert.KernelIdeal.Gen.unchanged (F := Ideal) m g)) fun r h c =>
      ⟨(h.1 c).1, (h.1 c).2.1, (h.1 c).2.2.1, (h.1 c).2.2.2, h.2 c⟩,
    θ_run_mono (Cert.ReferenceIdeal.Value.run (F := Ideal) m' g') fun r h c =>
      ⟨(h c).1.trans (Compare.pred_same m c _ (hg c) (Compare.finite m c hpre)),
        (h c).2.1.trans (Compare.mu_same m c _ (hg c)), (h c).2.2.1.trans (Compare.logvar_same m c _ (hg c)),
        (h c).2.2.2.1.trans (Compare.mu_same m c _ (hg c)), (h c).2.2.2.2⟩⟩

/-- The latent means, the log variances and the sample agree for every input. -/
theorem latent : Cert.algebraic_KernelIdeal_ReferenceIdeal_on_latent (hKernelIdeal := Cert.KernelIdeal.Gen.facts)
    (hReferenceIdeal := Cert.ReferenceIdeal.Gen.facts) (hOn_latent := Compare.facts_latent) := by
  intro m g m' g' _ hagree
  have hg := fun c b => Compare.graph_same m m' c (hagree c) b
  refine ⟨fun c => Cert.KernelIdeal.Arrays.PRED m c, fun c => Cert.KernelIdeal.Arrays.MU m c,
    fun c => Cert.KernelIdeal.Arrays.LV m c, fun c => Cert.KernelIdeal.Arrays.MU m c,
    θ_run_mono (θ_run_and (Cert.KernelIdeal.Arrays.run m g) (Cert.KernelIdeal.Gen.unchanged (F := Ideal) m g)) fun r h c =>
      ⟨fun i _ => congrFun (h.1 c).1 i, fun i _ => congrFun (h.1 c).2.1 i, fun i _ => congrFun (h.1 c).2.2.1 i,
        fun i _ => congrFun (h.1 c).2.2.2 i, h.2 c⟩,
    θ_run_mono (Cert.ReferenceIdeal.Value.run (F := Ideal) m' g') fun r h c =>
      ⟨fun i hi => absurd (show (0#1 : BitVec 1) = 1#1 from hi) (by decide),
        fun i _ => congrFun ((h c).2.1.trans (Compare.mu_same m c _ (hg c))) i,
        fun i _ => congrFun ((h c).2.2.1.trans (Compare.logvar_same m c _ (hg c))) i,
        fun i _ => congrFun ((h c).2.2.2.1.trans (Compare.mu_same m c _ (hg c))) i, (h c).2.2.2.2⟩⟩

/-- Every claim of the certificate. -/
theorem claim : Cert.Claim :=
  ⟨Cert.Kernel.Gen.facts, Cert.KernelIdeal.Gen.facts, Cert.ReferenceIdeal.Gen.facts, Compare.facts_finite,
    Compare.facts_latent, fun m g _ => Cert.Kernel.Gen.frame m g, fun m g _ => Cert.KernelIdeal.Gen.frame m g,
    fun m g _ => Cert.KernelIdeal.Gen.frame m g, frame_reference, frame_reference_finite,
    IdealRules.named_const.statement Cert.KernelIdeal.κ "inv_nodes" .f32 0x3C638E39#32 ((1 / 72 : ℝ) : EReal) rfl,
    finite, latent⟩

end Cert.Proof

end
